-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_are_numbers [hPre_codes_are_numbers : Cert.Pre_codes_are_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_codes_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_are_numbers [hPre_codes_are_numbers : Cert.Pre_codes_are_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_codes_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codes_are_numbers [hKernelIdeal : Cert.KernelIdeal.Facts] [hPre_codes_are_numbers : Cert.Pre_codes_are_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_are_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codes_are_numbers [hReferenceIdeal : Cert.ReferenceIdeal.Facts] [hPre_codes_are_numbers : Cert.Pre_codes_are_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_are_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_codes_are_numbers [hKernelIdeal : Cert.KernelIdeal.Facts] [hReferenceIdeal : Cert.ReferenceIdeal.Facts] [hPre_codes_are_numbers : Cert.Pre_codes_are_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_are_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_codes_are_numbers : Cert.Pre_codes_are_numbers.Facts),
    quiescent_Kernel (hKernel := hKernel)
    ∧ quiescent_KernelIdeal (hKernelIdeal := hKernelIdeal)
    ∧ quiescent_KernelIdeal_pre_codes_are_numbers (hKernelIdeal := hKernelIdeal) (hPre_codes_are_numbers := hPre_codes_are_numbers)
    ∧ quiescent_ReferenceIdeal (hReferenceIdeal := hReferenceIdeal)
    ∧ quiescent_ReferenceIdeal_pre_codes_are_numbers (hReferenceIdeal := hReferenceIdeal) (hPre_codes_are_numbers := hPre_codes_are_numbers)
    ∧ preserves_Kernel_KernelIdeal
    ∧ algebraic_KernelIdeal_ReferenceIdeal_pre_codes_are_numbers (hKernelIdeal := hKernelIdeal) (hReferenceIdeal := hReferenceIdeal) (hPre_codes_are_numbers := hPre_codes_are_numbers)
-- ==== Pre_codes_are_numbers.lean ====
abbrev S3x640x5120 : Shape := ⟨3, ![3, 640, 5120]⟩
abbrev S3x640x1024 : Shape := ⟨3, ![3, 640, 1024]⟩
abbrev S40 : Shape := ⟨1, ![40]⟩
abbrev S8 : Shape := ⟨1, ![8]⟩
abbrev S_ : Shape := ⟨0, ![]⟩

class Facts : Prop where
  bcast_S_S3x640x5120 : S_.BroadcastsInDim S3x640x5120 (![] : Fin 0 → Fin S3x640x5120.rank)
  bcast_S_S3x640x1024 : S_.BroadcastsInDim S3x640x1024 (![] : Fin 0 → Fin S3x640x1024.rank)
  bcast_S_S40 : S_.BroadcastsInDim S40 (![] : Fin 0 → Fin S40.rank)
  bcast_S_S8 : S_.BroadcastsInDim S8 (![] : Fin 0 → Fin S8.rank)

variable [Facts]

def fn {F : FTy → Type} [FloatOps F] (main_arg0 : IVec S3x640x5120 8) (main_arg1 : IVec S3x640x1024 8) (main_arg2 : FVec F S3x640x1024 .fp8e4m3) (main_arg3 : FVec F S40 .f32) (main_arg4 : FVec F S8 .f32) (main_arg5 : FVec F S8 .f32) : IVec S3x640x5120 1 × IVec S3x640x5120 1 × IVec S3x640x1024 1 × IVec S3x640x1024 1 × IVec S40 1 × IVec S8 1 :=
  let main_c : IVec S_ 8 := constantI S_ 8 127#8
  let main_v0 : IVec S3x640x5120 8 := broadcastInDim S3x640x5120 ![] bcast_S_S3x640x5120 main_c
  let main_v1 : IVec S3x640x5120 1 := cmpi .ne main_arg0 main_v0
  let main_c_0 : IVec S_ 8 := constantI S_ 8 255#8
  let main_v2 : IVec S3x640x5120 8 := broadcastInDim S3x640x5120 ![] bcast_S_S3x640x5120 main_c_0
  let main_v3 : IVec S3x640x5120 1 := cmpi .ne main_arg0 main_v2
  let main_c_1 : IVec S_ 8 := constantI S_ 8 127#8
  let main_v4 : IVec S3x640x1024 8 := broadcastInDim S3x640x1024 ![] bcast_S_S3x640x1024 main_c_1
  let main_v5 : IVec S3x640x1024 1 := cmpi .ne main_arg1 main_v4
  let main_c_2 : IVec S_ 8 := constantI S_ 8 255#8
  let main_v6 : IVec S3x640x1024 8 := broadcastInDim S3x640x1024 ![] bcast_S_S3x640x1024 main_c_2
  let main_v7 : IVec S3x640x1024 1 := cmpi .ne main_arg1 main_v6
  let main_v8 : FVec F S40 .f32 := Host.absf main_arg3
  let main_cst : FVec F S_ .f32 := constant S_ .f32 0x7F800000#32
  let main_v9 : FVec F S40 .f32 := broadcastInDim S40 ![] bcast_S_S40 main_cst
  let main_v10 : IVec S40 1 := cmpf .olt main_v8 main_v9
  let main_v11 : FVec F S8 .f32 := Host.absf main_arg4
  let main_cst_3 : FVec F S_ .f32 := constant S_ .f32 0x7F800000#32
  let main_v12 : FVec F S8 .f32 := broadcastInDim S8 ![] bcast_S_S8 main_cst_3
  let main_v13 : IVec S8 1 := cmpf .olt main_v11 main_v12
  (main_v1, main_v3, main_v5, main_v7, main_v10, main_v13)
-- ==== Kernel.lean ====
abbrev S3x640x5120 : Shape := ⟨3, ![3, 640, 5120]⟩
abbrev S3x640x1024 : Shape := ⟨3, ![3, 640, 1024]⟩
abbrev S40 : Shape := ⟨1, ![40]⟩
abbrev S8 : Shape := ⟨1, ![8]⟩
abbrev S1x640x640 : Shape := ⟨3, ![1, 640, 640]⟩
abbrev S1x640x128 : Shape := ⟨3, ![1, 640, 128]⟩
abbrev S128x640 : Shape := ⟨2, ![128, 640]⟩
abbrev S640x128 : Shape := ⟨2, ![640, 128]⟩
abbrev S1x128 : Shape := ⟨2, ![1, 128]⟩
abbrev S1 : Shape := ⟨1, ![1]⟩
abbrev S1x32x128 : Shape := ⟨3, ![1, 32, 128]⟩
abbrev S32x128 : Shape := ⟨2, ![32, 128]⟩
abbrev S256x128 : Shape := ⟨2, ![256, 128]⟩
abbrev S64x128 : Shape := ⟨2, ![64, 128]⟩
abbrev S64x256 : Shape := ⟨2, ![64, 256]⟩
abbrev S128 : Shape := ⟨1, ![128]⟩
abbrev S128x64 : Shape := ⟨2, ![128, 64]⟩
abbrev S128x256 : Shape := ⟨2, ![128, 256]⟩
abbrev S128x128 : Shape := ⟨2, ![128, 128]⟩
abbrev S96x128 : Shape := ⟨2, ![96, 128]⟩
abbrev S160x128 : Shape := ⟨2, ![160, 128]⟩
abbrev S160x256 : Shape := ⟨2, ![160, 256]⟩
abbrev S128x160 : Shape := ⟨2, ![128, 160]⟩
abbrev S224x128 : Shape := ⟨2, ![224, 128]⟩
abbrev S224x256 : Shape := ⟨2, ![224, 256]⟩
abbrev S192x128 : Shape := ⟨2, ![192, 128]⟩
abbrev S128x224 : Shape := ⟨2, ![128, 224]⟩
abbrev S256x256 : Shape := ⟨2, ![256, 256]⟩
abbrev S320x128 : Shape := ⟨2, ![320, 128]⟩
abbrev S320x256 : Shape := ⟨2, ![320, 256]⟩
abbrev S288x128 : Shape := ⟨2, ![288, 128]⟩
abbrev S128x320 : Shape := ⟨2, ![128, 320]⟩
abbrev S384x128 : Shape := ⟨2, ![384, 128]⟩
abbrev S384x256 : Shape := ⟨2, ![384, 256]⟩
abbrev S352x128 : Shape := ⟨2, ![352, 128]⟩
abbrev S128x384 : Shape := ⟨2, ![128, 384]⟩
abbrev S416x128 : Shape := ⟨2, ![416, 128]⟩
abbrev S416x256 : Shape := ⟨2, ![416, 256]⟩
abbrev S128x416 : Shape := ⟨2, ![128, 416]⟩
abbrev S480x128 : Shape := ⟨2, ![480, 128]⟩
abbrev S480x256 : Shape := ⟨2, ![480, 256]⟩
abbrev S448x128 : Shape := ⟨2, ![448, 128]⟩
abbrev S128x480 : Shape := ⟨2, ![128, 480]⟩
abbrev S512x128 : Shape := ⟨2, ![512, 128]⟩
abbrev S512x256 : Shape := ⟨2, ![512, 256]⟩
abbrev S128x512 : Shape := ⟨2, ![128, 512]⟩
abbrev S576x128 : Shape := ⟨2, ![576, 128]⟩
abbrev S576x256 : Shape := ⟨2, ![576, 256]⟩
abbrev S544x128 : Shape := ⟨2, ![544, 128]⟩
abbrev S128x576 : Shape := ⟨2, ![128, 576]⟩
abbrev S640x256 : Shape := ⟨2, ![640, 256]⟩
abbrev S608x128 : Shape := ⟨2, ![608, 128]⟩

abbrev nBuf : Space → Nat
  | .hbm => 9
  | .vmem => 9
  | .smem => 3
  | _ => 0

abbrev bufTy : (tb : Table) → Fin (tcTables nBuf tb) → BufTy
  | .hbm, ⟨0, _⟩ => ⟨S3x640x5120, .i8⟩
  | .hbm, ⟨1, _⟩ => ⟨S3x640x1024, .i8⟩
  | .hbm, ⟨2, _⟩ => ⟨S3x640x1024, .fp8e4m3⟩
  | .hbm, ⟨3, _⟩ => ⟨S40, .f32⟩
  | .hbm, ⟨4, _⟩ => ⟨S8, .f32⟩
  | .hbm, ⟨5, _⟩ => ⟨S8, .f32⟩
  | .hbm, ⟨6, _⟩ => ⟨S3x640x5120, .fp8e4m3⟩
  | .hbm, ⟨7, _⟩ => ⟨S3x640x1024, .fp8e4m3⟩
  | .hbm, ⟨8, _⟩ => ⟨S3x640x5120, .bf16⟩
  | .local _ .vmem, ⟨0, _⟩ => ⟨S1x640x640, .fp8e4m3⟩
  | .local _ .vmem, ⟨1, _⟩ => ⟨S1x640x640, .fp8e4m3⟩
  | .local _ .vmem, ⟨2, _⟩ => ⟨S1x640x128, .fp8e4m3⟩
  | .local _ .vmem, ⟨3, _⟩ => ⟨S1x640x128, .fp8e4m3⟩
  | .local _ .vmem, ⟨4, _⟩ => ⟨S1x640x128, .fp8e4m3⟩
  | .local _ .vmem, ⟨5, _⟩ => ⟨S1x640x128, .fp8e4m3⟩
  | .local _ .vmem, ⟨6, _⟩ => ⟨S1x640x640, .bf16⟩
  | .local _ .vmem, ⟨7, _⟩ => ⟨S1x640x640, .bf16⟩
  | .local _ .vmem, ⟨8, _⟩ => ⟨S128x640, .bf16⟩
  | .local _ .smem, ⟨0, _⟩ => ⟨S40, .f32⟩
  | .local _ .smem, ⟨1, _⟩ => ⟨S8, .f32⟩
  | .local _ .smem, ⟨2, _⟩ => ⟨S8, .f32⟩
  | _, _ => ⟨S3x640x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 8], ![false, false]⟩

def k0_off1 (i : grid0.Coords) (c0_i32 : BitVec 32) : Fin 1 → Nat :=
  let arg1 : BitVec 32 := BitVec.ofNat 32 (i 1).val
  let c5_i32 : BitVec 32 := 5#32
  let v9 : BitVec 32 := Scalar.muli arg1 c5_i32
  let v10 : BitVec 32 := Scalar.addi v9 c0_i32
  let v11 : Index := Scalar.indexCast v10
  ![v11.toNat]
def k0_off2 (i : grid0.Coords) : Fin 1 → Nat :=
  let arg1 : BitVec 32 := BitVec.ofNat 32 (i 1).val
  let v13 : Index := Scalar.indexCast arg1
  ![v13.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x640x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S3x640x5120 : Shape := ⟨3, ![3, 640, 5120]⟩
abbrev S3x640x1024 : Shape := ⟨3, ![3, 640, 1024]⟩
abbrev S40 : Shape := ⟨1, ![40]⟩
abbrev S8 : Shape := ⟨1, ![8]⟩
abbrev S3x640x8x5x128 : Shape := ⟨5, ![3, 640, 8, 5, 128]⟩
abbrev S3x640x8x128 : Shape := ⟨4, ![3, 640, 8, 128]⟩
abbrev S8x5 : Shape := ⟨2, ![8, 5]⟩
abbrev S8x1 : Shape := ⟨2, ![8, 1]⟩
abbrev S_ : Shape := ⟨0, ![]⟩
abbrev S8x5x1x1 : Shape := ⟨4, ![8, 5, 1, 1]⟩
abbrev S3x8x640x640x5 : Shape := ⟨5, ![3, 8, 640, 640, 5]⟩
abbrev S3x8x5x640x640 : Shape := ⟨5, ![3, 8, 5, 640, 640]⟩
abbrev S1x8x5x1x1 : Shape := ⟨5, ![1, 8, 5, 1, 1]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S3x8x5x640 : Shape := ⟨4, ![3, 8, 5, 640]⟩
abbrev S3x8x5x640x1 : Shape := ⟨5, ![3, 8, 5, 640, 1]⟩
abbrev S3x8x128x5x640 : Shape := ⟨5, ![3, 8, 128, 5, 640]⟩
abbrev S8x1x1 : Shape := ⟨3, ![8, 1, 1]⟩
abbrev S1x1x8x1x1 : Shape := ⟨5, ![1, 1, 8, 1, 1]⟩

abbrev nBuf : Space → Nat
  | .hbm => 61
  | .vmem => 6
  | .smem => 0
  | _ => 0

abbrev bufTy : (tb : Table) → Fin (tcTables nBuf tb) → BufTy
  | .hbm, ⟨0, _⟩ => ⟨S3x640x5120, .i8⟩
  | .hbm, ⟨1, _⟩ => ⟨S3x640x1024, .i8⟩
  | .hbm, ⟨2, _⟩ => ⟨S3x640x1024, .fp8e4m3⟩
  | .hbm, ⟨3, _⟩ => ⟨S40, .f32⟩
  | .hbm, ⟨4, _⟩ => ⟨S8, .f32⟩
  | .hbm, ⟨5, _⟩ => ⟨S8, .f32⟩
  | .hbm, ⟨6, _⟩ => ⟨S3x640x5120, .fp8e4m3⟩
  | .hbm, ⟨7, _⟩ => ⟨S3x640x1024, .fp8e4m3⟩
  | .hbm, ⟨8, _⟩ => ⟨S3x640x5120, .f32⟩
  | .hbm, ⟨9, _⟩ => ⟨S3x640x1024, .f32⟩
  | .hbm, ⟨10, _⟩ => ⟨S3x640x1024, .bf16⟩
  | .hbm, ⟨11, _⟩ => ⟨S3x640x8x5x128, .f32⟩
  | .hbm, ⟨12, _⟩ => ⟨S3x640x8x128, .f32⟩
  | .hbm, ⟨13, _⟩ => ⟨S3x640x8x128, .bf16⟩
  | .hbm, ⟨14, _⟩ => ⟨S8x5, .f32⟩
  | .hbm, ⟨15, _⟩ => ⟨S8x1, .f32⟩
  | .hbm, ⟨16, _⟩ => ⟨S8x5, .f32⟩
  | .hbm, ⟨17, _⟩ => ⟨S8x5, .f32⟩
  | .hbm, ⟨18, _⟩ => ⟨S_, .f32⟩
  | .hbm, ⟨19, _⟩ => ⟨S8x5, .f32⟩
  | .hbm, ⟨20, _⟩ => ⟨S8x5, .f32⟩
  | .hbm, ⟨21, _⟩ => ⟨S8x5x1x1, .f32⟩
  | .hbm, ⟨22, _⟩ => ⟨S3x8x640x640x5, .f32⟩
  | .hbm, ⟨23, _⟩ => ⟨S3x8x5x640x640, .f32⟩
  | .hbm, ⟨24, _⟩ => ⟨S1x8x5x1x1, .f32⟩
  | .hbm, ⟨25, _⟩ => ⟨S3x8x5x640x640, .f32⟩
  | .hbm, ⟨26, _⟩ => ⟨S3x8x5x640x640, .f32⟩
  | .hbm, ⟨27, _⟩ => ⟨S640, .i32⟩
  | .hbm, ⟨28, _⟩ => ⟨S1x640, .i32⟩
  | .hbm, ⟨29, _⟩ => ⟨S640x1, .i32⟩
  | .hbm, ⟨30, _⟩ => ⟨S640x640, .i32⟩
  | .hbm, ⟨31, _⟩ => ⟨S640x640, .i32⟩
  | .hbm, ⟨32, _⟩ => ⟨S640x640, .i1⟩
  | .hbm, ⟨33, _⟩ => ⟨S_, .f32⟩
  | .hbm, ⟨34, _⟩ => ⟨S_, .f32⟩
  | .hbm, ⟨35, _⟩ => ⟨S3x8x5x640x640, .i1⟩
  | .hbm, ⟨36, _⟩ => ⟨S3x8x5x640x640, .f32⟩
  | .hbm, ⟨37, _⟩ => ⟨S3x8x5x640x640, .f32⟩
  | .hbm, ⟨38, _⟩ => ⟨S_, .f32⟩
  | .hbm, ⟨39, _⟩ => ⟨S3x8x5x640, .f32⟩
  | .hbm, ⟨40, _⟩ => ⟨S_, .f32⟩
  | .hbm, ⟨41, _⟩ => ⟨S3x8x5x640, .f32⟩
  | .hbm, ⟨42, _⟩ => ⟨S3x8x5x640, .f32⟩
  | .hbm, ⟨43, _⟩ => ⟨S3x8x5x640x1, .f32⟩
  | .hbm, ⟨44, _⟩ => ⟨S3x8x5x640x640, .f32⟩
  | .hbm, ⟨45, _⟩ => ⟨S3x8x5x640x640, .f32⟩
  | .hbm, ⟨46, _⟩ => ⟨S3x8x5x640x640, .f32⟩
  | .hbm, ⟨47, _⟩ => ⟨S_, .f32⟩
  | .hbm, ⟨48, _⟩ => ⟨S3x8x5x640, .f32⟩
  | .hbm, ⟨49, _⟩ => ⟨S3x8x5x640x1, .f32⟩
  | .hbm, ⟨50, _⟩ => ⟨S3x8x5x640x640, .f32⟩
  | .hbm, ⟨51, _⟩ => ⟨S3x8x5x640x640, .f32⟩
  | .hbm, ⟨52, _⟩ => ⟨S3x8x5x640x640, .bf16⟩
  | .hbm, ⟨53, _⟩ => ⟨S3x8x128x5x640, .f32⟩
  | .hbm, ⟨54, _⟩ => ⟨S3x640x8x5x128, .f32⟩
  | .hbm, ⟨55, _⟩ => ⟨S8x1x1, .f32⟩
  | .hbm, ⟨56, _⟩ => ⟨S1x1x8x1x1, .f32⟩
  | .hbm, ⟨57, _⟩ => ⟨S3x640x8x5x128, .f32⟩
  | .hbm, ⟨58, _⟩ => ⟨S3x640x8x5x128, .f32⟩
  | .hbm, ⟨59, _⟩ => ⟨S3x640x8x5x128, .bf16⟩
  | .hbm, ⟨60, _⟩ => ⟨S3x640x5120, .bf16⟩
  | .local _ .vmem, ⟨0, _⟩ => ⟨S3x640x5120, .fp8e4m3⟩
  | .local _ .vmem, ⟨1, _⟩ => ⟨S3x640x1024, .fp8e4m3⟩
  | .local _ .vmem, ⟨2, _⟩ => ⟨S3x640x1024, .fp8e4m3⟩
  | .local _ .vmem, ⟨3, _⟩ => ⟨S3x640x5120, .f32⟩
  | .local _ .vmem, ⟨4, _⟩ => ⟨S3x640x1024, .f32⟩
  | .local _ .vmem, ⟨5, _⟩ => ⟨S3x640x1024, .bf16⟩
  | _, _ => ⟨S3x640x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Attn.RefTerm.lean ====
/-
  The reference's host operations as one function of the arrays they start from: the three widened arrays and the three
  scales. The function is cut into named stages, in the program's order.
-/
module

public import proofs.«01_k».proof.Defs
public import proofs.«01_k».proof.Proof.Gen.ReferenceIdeal.Frame

@[expose] public section

set_option maxRecDepth 65536

noncomputable section

namespace Cert.Attn

open Idealize.ShloMosaic
open Cert.ReferenceIdeal Cert.ReferenceIdeal.Facts₀ Cert.ReferenceIdeal.Facts

/-- The scale of each query head's scores, `q_scale · k_scale · 1/√128`. -/
def refScale (qs : S40.Idx → EReal) (ks : S8.Idx → EReal) : S8x5.Idx → EReal :=
  mulf (F := Ideal) (φ := .f32)
    (mulf (F := Ideal) (φ := .f32) (shapeCast S8x5 qs shapeCasts_S40_S8x5)
      (broadcastInDim S8x5 ![0, 1] bcast_S8x1_S8x5_0_1 (broadcastInDim S8x1 ![0] bcast_S8_S8x1_0 ks)))
    (broadcastInDim S8x5 ![] bcast_S_S8x5 (constant (F := Ideal) S_ .f32 0x3DB504F3#32))

/-- The scaled scores, by batch, kv head, query head, query and key. -/
def refScores (x : S3x640x5120.Idx → EReal) (k : S3x640x1024.Idx → EReal) (sc : S8x5.Idx → EReal) : S3x8x5x640x640.Idx → EReal :=
  mulf (F := Ideal) (φ := .f32)
    (transpose S3x8x5x640x640 [0, 1, 4, 3, 2]
      (Host.dotGeneral (F := Ideal) (φ₁ := .f32) (φ₂ := .f32) dot_S3x640x8x128_S3x640x8x5x128_S3x8x640x640x5_3_4_1_13_02_02 none
        (shapeCast S3x640x8x128 k shapeCasts_S3x640x1024_S3x640x8x128)
        (shapeCast S3x640x8x5x128 x shapeCasts_S3x640x5120_S3x640x8x5x128))
      transposes_S3x8x640x640x5_S3x8x5x640x640_0_1_4_3_2)
    (broadcastInDim S3x8x5x640x640 ![0, 1, 2, 3, 4] bcast_S1x8x5x1x1_S3x8x5x640x640_0_1_2_3_4
      (broadcastInDim S1x8x5x1x1 ![1, 2, 3, 4] bcast_S8x5x1x1_S1x8x5x1x1_1_2_3_4
        (broadcastInDim S8x5x1x1 ![0, 1] bcast_S8x5_S8x5x1x1_0_1 sc)))

/-- Which keys each query sees. -/
def refMask : IVec S640x640 1 :=
  cmpi .sle
    (broadcastInDim S640x640 ![0, 1] bcast_S1x640_S640x640_0_1 (broadcastInDim S1x640 ![1] bcast_S640_S1x640_1 (iotaInDim S640 32 0)))
    (broadcastInDim S640x640 ![0, 1] bcast_S640x1_S640x640_0_1 (broadcastInDim S640x1 ![0] bcast_S640_S640x1_0 (iotaInDim S640 32 0)))

/-- The scores with −∞ where a key comes after the query. -/
def refMasked (s : S3x8x5x640x640.Idx → EReal) : S3x8x5x640x640.Idx → EReal :=
  select (broadcastInDim S3x8x5x640x640 ![3, 4] bcast_S640x640_S3x8x5x640x640_3_4 refMask) s
    (broadcastInDim S3x8x5x640x640 ![] bcast_S_S3x8x5x640x640 (constant (F := Ideal) S_ .f32 0xFF800000#32))

/-- A row of values along the keys. -/
def refAlong (r : S3x8x5x640.Idx → EReal) : S3x8x5x640x640.Idx → EReal :=
  broadcastInDim S3x8x5x640x640 ![0, 1, 2, 3, 4] bcast_S3x8x5x640x1_S3x8x5x640x640_0_1_2_3_4
    (broadcastInDim S3x8x5x640x1 ![0, 1, 2, 3] bcast_S3x8x5x640_S3x8x5x640x1_0_1_2_3 r)

/-- Each query's largest score. -/
def refMax (s : S3x8x5x640x640.Idx → EReal) : S3x8x5x640.Idx → EReal :=
  maximumf (F := Ideal) (φ := .f32)
    (broadcastInDim S3x8x5x640 ![] bcast_S_S3x8x5x640 (constant (F := Ideal) S_ .f32 0xFF800000#32))
    (Host.reduce (FloatOps.maximumf (F := Ideal) (φ := .f32)) s (constant (F := Ideal) S_ .f32 0xFF800000#32)
      reducesTo_S3x8x5x640x640_S3x8x5x640_d4 h_S_)

/-- The exponentials of the scores less the largest. -/
def refExp (s : S3x8x5x640x640.Idx → EReal) : S3x8x5x640x640.Idx → EReal :=
  Host.exp (F := Ideal) (φ := .f32) (subf (F := Ideal) (φ := .f32) s (refAlong (refMax s)))

/-- Each query's weights: its exponentials over their sum. -/
def refWeights (e : S3x8x5x640x640.Idx → EReal) : S3x8x5x640x640.Idx → EReal :=
  Host.divf (F := Ideal) (φ := .f32) e
    (refAlong (Host.reduceAdd (F := Ideal) (φ := .f32) e (constant (F := Ideal) S_ .f32 0x00000000#32)
      reducesTo_S3x8x5x640x640_S3x8x5x640_d4 h_S_))

/-- The weighted sums of the values, times `v_scale`. -/
def refOut (v : S3x640x1024.Idx → EReal) (p : S3x8x5x640x640.Idx → EReal) (vs : S8.Idx → EReal) : S3x640x8x5x128.Idx → EReal :=
  mulf (F := Ideal) (φ := .f32)
    (transpose S3x640x8x5x128 [0, 4, 1, 3, 2]
      (Host.dotGeneral (F := Ideal) (φ₁ := .bf16) (φ₂ := .bf16) dot_S3x640x8x128_S3x8x5x640x640_S3x8x128x5x640_1_4_3_23_02_01 none
        (shapeCast S3x640x8x128 v shapeCasts_S3x640x1024_S3x640x8x128)
        (truncf (F := Ideal) (φ := .f32) .bf16 p bitsLt_bf16_f32))
      transposes_S3x8x128x5x640_S3x640x8x5x128_0_4_1_3_2)
    (broadcastInDim S3x640x8x5x128 ![0, 1, 2, 3, 4] bcast_S1x1x8x1x1_S3x640x8x5x128_0_1_2_3_4
      (broadcastInDim S1x1x8x1x1 ![2, 3, 4] bcast_S8x1x1_S1x1x8x1x1_2_3_4
        (broadcastInDim S8x1x1 ![0] bcast_S8_S8x1x1_0 vs)))

/-- The reference's result. -/
def refResult (x : S3x640x5120.Idx → EReal) (k v : S3x640x1024.Idx → EReal) (qs : S40.Idx → EReal) (ks vs : S8.Idx → EReal) :
    S3x640x5120.Idx → EReal :=
  shapeCast S3x640x5120
    (truncf (F := Ideal) (φ := .f32) .bf16
      (refOut v (refWeights (refExp (refMasked (refScores x k (refScale qs ks))))) vs) bitsLt_bf16_f32)
    shapeCasts_S3x640x8x5x128_S3x640x5120

open Cert.ReferenceIdeal.Gen in
set_option maxHeartbeats 8000000 in
/-- What the host operations after the region leave in the result buffer. -/
theorem after_tail (W : Valuation τ sig (Elt Ideal)) :
    StableHlo.after ([hostOps1, hostOps1_1, hostOps1_2].flatten) W (Proc.devRef .tc main_v44)
      = refResult (W (Proc.devRef .tc main_v2_0)) (W (Proc.devRef .tc main_v2_1)) (W (Proc.devRef .tc main_v2_2))
          (W (Proc.devRef .tc main_arg3)) (W (Proc.devRef .tc main_arg4)) (W (Proc.devRef .tc main_arg5)) := by
  simp only [hostOps1, hostOps1_1, hostOps1_2, List.flatten_cons, List.flatten_nil, List.append_nil, List.cons_append, List.nil_append]
  after_results_simp
  rfl

end Cert.Attn
-- ==== Proof.Attn.RefRun.lean ====
/-
  Every run of the reference ends with `refResult` of its inputs in the result buffer: the region only widens the three
  8-bit arrays, which changes no value, and the host operations do the rest.
-/
module

public import proofs.«01_k».proof.Proof.Attn.RefTerm
public import Idealize.ShloMosaic.Lib.Pipeline.ValueKit

@[expose] public section

set_option maxRecDepth 65536

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ)

theorem entry_x (c : Dev nD) : Gen.V m c main_v0 = bitcastToFloat (F := Ideal) .fp8e4m3 (m ((c : Thread nD τ).loc main_arg0)) := by
  change StableHlo.after [hostOps0].flatten (fun b => m (c, b)) (Proc.tc.devRef _) = _
  simp only [hostOps0, List.flatten_cons, List.flatten_nil, List.append_nil, List.cons_append, List.nil_append]
  after_results_simp

theorem entry_k (c : Dev nD) : Gen.V m c main_v1 = bitcastToFloat (F := Ideal) .fp8e4m3 (m ((c : Thread nD τ).loc main_arg1)) := by
  change StableHlo.after [hostOps0].flatten (fun b => m (c, b)) (Proc.tc.devRef _) = _
  simp only [hostOps0, List.flatten_cons, List.flatten_nil, List.append_nil, List.cons_append, List.nil_append]
  after_results_simp

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)

/-- The region leaves the queries, the keys and the values as they were, in a wider format. -/
theorem widened_x (c : Dev nD) : (dats m 0 c).arrAt 3 cfg0.N = (Gen.V m c main_v0 : S3x640x5120.Idx → EReal) := by
  refine (dats m 0 c).arrAt_eq_of_covers 3 _ (by decide +kernel) fun t hf y => ?_
  blk_simp
  rw [after0_3]
  frame_out
  pointwise [k0_pay1]
  blk_ext [iblk, idx0, idx3]

theorem widened_k (c : Dev nD) : (dats m 0 c).arrAt 4 cfg0.N = (Gen.V m c main_v1 : S3x640x1024.Idx → EReal) := by
  refine (dats m 0 c).arrAt_eq_of_covers 4 _ (by decide +kernel) fun t hf y => ?_
  blk_simp
  rw [after0_4]
  frame_out
  pointwise [k0_pay2]
  blk_ext [iblk, idx1, idx4]

theorem widened_v (c : Dev nD) : (dats m 0 c).arrAt 5 cfg0.N = (Gen.V m c main_arg2 : S3x640x1024.Idx → EReal) := by
  refine (dats m 0 c).arrAt_eq_of_covers 5 _ (by decide +kernel) fun t hf y => ?_
  blk_simp
  rw [after0_5]
  frame_out
  pointwise [k0_pay3]
  blk_ext [iblk, idx2, idx5]

/-- The result buffer after the host operations that follow the region. -/
theorem tail_eq (c : Dev nD) :
    Pipeline.afterTail₀ cfgs (dats m) 0 (V0 m) [hostOps1, hostOps1_1, hostOps1_2] c main_v44
      = refResult (bitcastToFloat (F := Ideal) .fp8e4m3 (m ((c : Thread nD τ).loc main_arg0)))
          (bitcastToFloat (F := Ideal) .fp8e4m3 (m ((c : Thread nD τ).loc main_arg1))) (m ((c : Thread nD τ).loc main_arg2))
          (m ((c : Thread nD τ).loc main_arg3)) (m ((c : Thread nD τ).loc main_arg4)) (m ((c : Thread nD τ).loc main_arg5)) := by
  unfold Pipeline.afterTail₀
  rw [after_tail]
  have hne : ∀ b : Ref sig .tc, (∀ w, Pipeline.arrRef spec0 w ≠ b) →
      Pipeline.withArrays spec0 c (V0 m c) (fun w => (dats m 0 c).arrAt w cfg0.N) (Proc.devRef .tc b) = Gen.V m c b :=
    fun b hb => Pipeline.withArrays_of_ne spec0 c (V0 m c) _ b hb
  have hwin : ∀ w, Pipeline.withArrays spec0 c (V0 m c) (fun w => (dats m 0 c).arrAt w cfg0.N) (Proc.devRef .tc (Pipeline.arrRef spec0 w)) = (dats m 0 c).arrAt w cfg0.N :=
    fun w => Pipeline.withArrays_arr spec0 (by decide) c (V0 m c) _ w
  have e3 := (hwin 3).trans ((widened_x m c).trans (entry_x m c))
  have e4 := (hwin 4).trans ((widened_k m c).trans (entry_k m c))
  have e5 := (hwin 5).trans ((widened_v m c).trans (V_main_arg2 m c))
  have a3 := (hne main_arg3 (by exact (by decide : ∀ w, Pipeline.arrRef spec0 w ≠ main_arg3))).trans (V_main_arg3 m c)
  have a4 := (hne main_arg4 (by exact (by decide : ∀ w, Pipeline.arrRef spec0 w ≠ main_arg4))).trans (V_main_arg4 m c)
  have a5 := (hne main_arg5 (by exact (by decide : ∀ w, Pipeline.arrRef spec0 w ≠ main_arg5))).trans (V_main_arg5 m c)
  exact congr (congr (congr (congr (congr (congrArg refResult e3) e4) e5) a3) a4) a5

/-- The reference's runs. -/
theorem run (ρ : _) :
    θ_run (defs (F := Ideal)) (onTc (τ := τ) (main (F := Ideal))) ⟨m, fun _ => 0, ρ⟩ fun r => ∀ c : Dev nD,
      r.2.mem ((c.tc : Thread nD τ).loc main_v44)
        = refResult (bitcastToFloat (F := Ideal) .fp8e4m3 (m ((c : Thread nD τ).loc main_arg0)))
          (bitcastToFloat (F := Ideal) .fp8e4m3 (m ((c : Thread nD τ).loc main_arg1))) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from Cert.ReferenceIdeal.Gen.run_main m ρ
  · exact tail_eq m c
  · exact W_main_arg0 m (dats m) c
  · exact W_main_arg1 m (dats m) c
  · exact W_main_arg3 m (dats m) c
  · exact W_main_arg4 m (dats m) c
  · exact W_main_arg5 m (dats m) c

end Cert.Attn.Ref
-- ==== Proof.Attn.Ops.lean ====
/-
  Arrays of two axes read as functions of two natural numbers. `Rep x f` says that the array `x` holds `f row column`.
  One lemma per vector operation gives the function of its result from the functions of its operands, for any extents;
  the later files compose them.
-/
module

public import Idealize.ShloMosaic.Lib.Pointwise
public import Idealize.ShloMosaic.Lib.Pointwise.IndexVar
public import Idealize.ShloMosaic.Lib.MatmulPlain
public import Idealize.ShloMosaic.Lib.Pipeline.Value
public import Idealize.ShloMosaic.Lib.WordCmp

@[expose] public section

noncomputable section

namespace Cert.Attn

open Idealize.ShloMosaic
open scoped BigOperators

variable {α : Type} {N M N' M' : ℕ}

/-- The array `x` holds `f row column`. -/
def Rep (x : (⟨2, ![N, M]⟩ : Shape).Idx → α) (f : ℕ → ℕ → α) : Prop :=
  ∀ j : (⟨2, ![N, M]⟩ : Shape).Idx, x j = f (j 0).val (j 1).val

/-- An index of a two-axis shape from its two coordinates. -/
def at2 {N M : ℕ} (a : Fin N) (b : Fin M) : (⟨2, ![N, M]⟩ : Shape).Idx := Idealize.ShloMosaic.ix2 a b

theorem lt0 (j : (⟨2, ![N, M]⟩ : Shape).Idx) : (j 0).val < N := (j 0).isLt
theorem lt1 (j : (⟨2, ![N, M]⟩ : Shape).Idx) : (j 1).val < M := (j 1).isLt

theorem Rep.at {x : (⟨2, ![N, M]⟩ : Shape).Idx → α} {f : ℕ → ℕ → α} (h : Rep x f) (a : Fin N) (b : Fin M) :
    x (at2 a b) = f a.val b.val := h (at2 a b)

/-- Another function with the same values inside the array. -/
theorem Rep.congr {x : (⟨2, ![N, M]⟩ : Shape).Idx → α} {f g : ℕ → ℕ → α} (h : Rep x f)
    (e : ∀ a b, a < N → b < M → f a b = g a b) : Rep x g :=
  fun j => (h j).trans (e _ _ (lt0 j) (lt1 j))

/-- A slice is read at the moved index. -/
theorem Rep.slice {x : (⟨2, ![N, M]⟩ : Shape).Idx → α} {f : ℕ → ℕ → α} (h : Rep x f) (o0 o1 : ℕ)
    (hs : (⟨2, ![N, M]⟩ : Shape).Slices ![o0, o1] ⟨2, ![N', M']⟩) :
    Rep (extractStridedSlice (⟨2, ![N', M']⟩ : Shape) ![o0, o1] x hs) (fun a b => f (o0 + a) (o1 + b)) :=
  fun _ => h _

/-- A slice from the first row and column. -/
theorem Rep.top {x : (⟨2, ![N, M]⟩ : Shape).Idx → α} {f : ℕ → ℕ → α} (h : Rep x f)
    (hs : (⟨2, ![N, M]⟩ : Shape).Slices ![0, 0] ⟨2, ![N', M']⟩) :
    Rep (extractStridedSlice (⟨2, ![N', M']⟩ : Shape) ![0, 0] x hs) f :=
  (h.slice 0 0 hs).congr fun a b _ _ => by rw [Nat.zero_add, Nat.zero_add]

/-- A row spread over the rows. -/
theorem Rep.bcRow {x : (⟨2, ![1, M]⟩ : Shape).Idx → α} {f : ℕ → ℕ → α} (h : Rep x f)
    (hb : (⟨2, ![1, M]⟩ : Shape).Broadcasts ⟨2, ![N, M]⟩) :
    Rep (broadcastTo (⟨2, ![N, M]⟩ : Shape) x hb) (fun _ b => f 0 b) := by
  intro j
  have hM := lt1 j
  rw [Idealize.ShloMosaic.broadcastTo_apply x hb j (at2 (0 : Fin 1) ⟨(j 1).val, lt1 j⟩)]
  · exact h.at _ _
  · intro a
    match a with
    | ⟨0, _⟩ => rfl
    | ⟨1, _⟩ =>
      change (j 1).val = if M = 1 then 0 else (j 1).val
      split <;> omega

theorem Rep.transpose {x : (⟨2, ![N, M]⟩ : Shape).Idx → α} {f : ℕ → ℕ → α} (h : Rep x f)
    (ht : (⟨2, ![N, M]⟩ : Shape).Transposes [1, 0] ⟨2, ![M, N]⟩) :
    Rep (transpose (⟨2, ![M, N]⟩ : Shape) [1, 0] x ht) (fun a b => f b a) := by
  intro j
  rw [Idealize.ShloMosaic.transpose_apply [1, 0] x ht j (at2 ⟨(j 1).val, lt1 j⟩ ⟨(j 0).val, lt0 j⟩)]
  · exact h.at _ _
  · intro b
    match b with
    | ⟨0, _⟩ => rfl
    | ⟨1, _⟩ => rfl

/-- Two arrays one over the other. -/
theorem Rep.concatRows {x : (⟨2, ![N, M]⟩ : Shape).Idx → α} {y : (⟨2, ![N', M]⟩ : Shape).Idx → α} {f g : ℕ → ℕ → α}
    (hx : Rep x f) (hy : Rep y g) {T : ℕ}
    (hc : Shape.Concatenates [(⟨2, ![N, M]⟩ : Shape), ⟨2, ![N', M]⟩] ⟨2, ![T, M]⟩ 0) :
    Rep (concatenate (⟨2, ![T, M]⟩ : Shape) 0 [⟨⟨2, ![N, M]⟩, x⟩, ⟨⟨2, ![N', M]⟩, y⟩] hc)
      (fun a b => if a < N then f a b else g (a - N) b) := by
  intro j
  rw [concatenate_pair_apply]
  split
  · rename_i hlt
    exact (hx _).trans (if_pos (show (j 0).val < N from hlt)).symm
  · rename_i hlt
    exact (hy _).trans (if_neg (show ¬ (j 0).val < N from hlt)).symm

/-- Two arrays side by side. -/
theorem Rep.concatCols {x : (⟨2, ![N, M]⟩ : Shape).Idx → α} {y : (⟨2, ![N, M']⟩ : Shape).Idx → α} {f g : ℕ → ℕ → α}
    (hx : Rep x f) (hy : Rep y g) {T : ℕ}
    (hc : Shape.Concatenates [(⟨2, ![N, M]⟩ : Shape), ⟨2, ![N, M']⟩] ⟨2, ![N, T]⟩ 1) :
    Rep (concatenate (⟨2, ![N, T]⟩ : Shape) 1 [⟨⟨2, ![N, M]⟩, x⟩, ⟨⟨2, ![N, M']⟩, y⟩] hc)
      (fun a b => if b < M then f a b else g a (b - M)) := by
  intro j
  rw [concatenate_pair_apply]
  split
  · rename_i hlt
    exact (hx _).trans (if_pos (show (j 1).val < M from hlt)).symm
  · rename_i hlt
    exact (hy _).trans (if_neg (show ¬ (j 1).val < M from hlt)).symm

/-- The word of −∞. -/
theorem negInf : (FloatOps.ofBits (F := Ideal) .f32 0xFF800000#32 : EReal) = ⊥ := by
  simp [Ideal.ofBits, Ideal.ieee]
/-- A column maximum from −∞ is the supremum over the rows. -/
theorem maxRow {x : (⟨2, ![N, M]⟩ : Shape).Idx → EReal} {f : ℕ → ℕ → EReal} (hx : Rep x f)
    (hr : (⟨2, ![N, M]⟩ : Shape).Reduces [0] ⟨1, ![M]⟩) (hφ : FKind.Formats .f32)
    (hacc : (0xFF800000#32 : BitVec 32) = FKind.maximumf.neutral .f32 hφ)
    (hs : (⟨1, ![M]⟩ : Shape).ShapeCasts ⟨2, ![1, M]⟩) :
    Rep (shapeCast (⟨2, ![1, M]⟩ : Shape)
      (multiReduction (F := Ideal) .maximumf [0] ⟨1, ![M]⟩ x 0xFF800000#32 hr hφ hacc) hs)
      (fun _ b => (Finset.range N).sup (fun a => f a b)) := by
  intro j
  refine (shapeCast_addUnit_apply ![M] _ hs j).trans
    ((Ideal.multiReduction_maximumf_single x _ hr hφ hacc (fun a => j a.succ)).trans ?_)
  rw [negInf]
  refine (Finset.fold_congr (g := fun k : Fin N => f k.val (j 1).val) fun k _ => hx _).trans ?_
  change (Finset.univ : Finset (Fin N)).sup (fun k => f k.val (j 1).val) = _
  refine le_antisymm (Finset.sup_le fun k _ => ?_) (Finset.sup_le fun k hk => ?_)
  · exact Finset.le_sup (f := fun a => f a (j 1).val) (Finset.mem_range.2 k.isLt)
  · exact Finset.le_sup (f := fun k : Fin N => f k.val (j 1).val) (Finset.mem_univ ⟨k, Finset.mem_range.1 hk⟩)

/-- A column sum. -/
theorem sumRow {x : (⟨2, ![N, M]⟩ : Shape).Idx → EReal} {f : ℕ → ℕ → EReal} (hx : Rep x f)
    (hr : (⟨2, ![N, M]⟩ : Shape).Reduces [0] ⟨1, ![M]⟩) (hφ : FKind.Formats .f32)
    (hacc : (0#32 : BitVec 32) = FKind.add.neutral .f32 hφ)
    (hs : (⟨1, ![M]⟩ : Shape).ShapeCasts ⟨2, ![1, M]⟩) :
    Rep (shapeCast (⟨2, ![1, M]⟩ : Shape)
      (multiReduction (F := Ideal) .add [0] ⟨1, ![M]⟩ x 0#32 hr hφ hacc) hs)
      (fun _ b => ∑ a ∈ Finset.range N, f a b) := by
  intro j
  refine (shapeCast_addUnit_apply ![M] _ hs j).trans
    ((Ideal.multiReduction_add_single x _ hr hφ hacc (fun a => j a.succ)).trans ?_)
  exact (Finset.sum_congr rfl fun k _ => hx _).trans (Fin.sum_univ_eq_sum_range (fun k => f k (j 1).val) N)

/-- A product `[M,K] × [K,N]` on a zero accumulator. -/
theorem Rep.matmulPlain {φ₁ φ₂ : FTy} {K : ℕ} {x : (⟨2, ![M, K]⟩ : Shape).Idx → EReal} {y : (⟨2, ![K, N]⟩ : Shape).Idx → EReal}
    {f g : ℕ → ℕ → EReal} (hx : Rep x f) (hy : Rep y g) {d : DotDims (⟨2, ![M, K]⟩ : Shape) ⟨2, ![K, N]⟩ ⟨2, ![M, N]⟩}
    (hd : d = DotDims.plain M K N) (prec : Option ContractPrecision) :
    Rep (matmul (F := Ideal) (φ₁ := φ₁) (φ₂ := φ₂) d prec x y (constant ⟨2, ![M, N]⟩ .f32 0#32))
      (fun a b => ∑ k ∈ Finset.range K, f a k * g k b) := by
  subst hd
  intro j
  have e := Ideal.matmul_plain_apply (φ₁ := φ₁) (φ₂ := φ₂) prec x y (constant ⟨2, ![M, N]⟩ .f32 0#32) ⟨(j 0).val, lt0 j⟩ ⟨(j 1).val, lt1 j⟩
  have ej : ValueIdx.ix2 (⟨(j 0).val, lt0 j⟩ : Fin M) (⟨(j 1).val, lt1 j⟩ : Fin N) = j := (eq_ix2 j).symm
  rw [ej] at e
  refine e.trans ?_
  rw [show (constant (F := Ideal) ⟨2, ![M, N]⟩ .f32 0#32) j = 0 from Ideal.ofBits_zero_f32, zero_add]
  refine (Finset.sum_congr rfl fun k _ => ?_).trans (Fin.sum_univ_eq_sum_range (fun k => f (j 0).val k * g k (j 1).val) K)
  rw [hx, hy]
  rfl

/-- A product `[M,K] × [N,K]ᵀ` on a zero accumulator. -/
theorem Rep.matmulT {φ₁ φ₂ : FTy} {K : ℕ} {x : (⟨2, ![M, K]⟩ : Shape).Idx → EReal} {y : (⟨2, ![N, K]⟩ : Shape).Idx → EReal}
    {f g : ℕ → ℕ → EReal} (hx : Rep x f) (hy : Rep y g) {d : DotDims (⟨2, ![M, K]⟩ : Shape) ⟨2, ![N, K]⟩ ⟨2, ![M, N]⟩}
    (hd : d = DotDims.transposedRhs M K N) (prec : Option ContractPrecision) :
    Rep (matmul (F := Ideal) (φ₁ := φ₁) (φ₂ := φ₂) d prec x y (constant ⟨2, ![M, N]⟩ .f32 0#32))
      (fun a b => ∑ k ∈ Finset.range K, f a k * g b k) := by
  subst hd
  intro j
  have e := Ideal.matmul_transposedRhs_apply (φ₁ := φ₁) (φ₂ := φ₂) prec x y (constant ⟨2, ![M, N]⟩ .f32 0#32) ⟨(j 0).val, lt0 j⟩ ⟨(j 1).val, lt1 j⟩
  have ej : ValueIdx.ix2 (⟨(j 0).val, lt0 j⟩ : Fin M) (⟨(j 1).val, lt1 j⟩ : Fin N) = j := (eq_ix2 j).symm
  rw [ej] at e
  refine e.trans ?_
  rw [show (constant (F := Ideal) ⟨2, ![M, N]⟩ .f32 0#32) j = 0 from Ideal.ofBits_zero_f32, zero_add]
  refine (Finset.sum_congr rfl fun k _ => ?_).trans (Fin.sum_univ_eq_sum_range (fun k => f (j 0).val k * g (j 1).val k) K)
  rw [hx, hy]
  rfl

/-! ## Operations entry by entry -/

section Entry
variable {x y : (⟨2, ![N, M]⟩ : Shape).Idx → EReal} {f g : ℕ → ℕ → EReal}

theorem Rep.mulf {φ : FTy} (hx : Rep x f) (hy : Rep y g) : Rep (mulf (F := Ideal) (φ := φ) x y) (fun a b => f a b * g a b) :=
  fun j => congrArg₂ (· * ·) (hx j) (hy j)

theorem Rep.subf {φ : FTy} (hx : Rep x f) (hy : Rep y g) : Rep (subf (F := Ideal) (φ := φ) x y) (fun a b => f a b - g a b) :=
  fun j => congrArg₂ (· - ·) (hx j) (hy j)

theorem Rep.divf {φ : FTy} (hx : Rep x f) (hy : Rep y g) : Rep (divf (F := Ideal) (φ := φ) x y) (fun a b => Ideal.div (f a b) (g a b)) :=
  fun j => congrArg₂ Ideal.div (hx j) (hy j)

theorem Rep.exp2 {φ : FTy} (hx : Rep x f) : Rep (exp2 (F := Ideal) (φ := φ) x) (fun a b => Ideal.exp2 (f a b)) :=
  fun j => congrArg Ideal.exp2 (hx j)

theorem Rep.truncf {φ ψ : FTy} (hx : Rep x f) (h : ψ.bits < φ.bits) : Rep (truncf (F := Ideal) (φ := φ) ψ x h) f := hx

end Entry

theorem Rep.broadcast (w : α) : Rep (broadcast (⟨2, ![N, M]⟩ : Shape) w) (fun _ _ => w) := fun _ => rfl

/-- `select` between two arrays under a mask. -/
theorem Rep.select {c : IVec (⟨2, ![N, M]⟩ : Shape) 1} {C : ℕ → ℕ → Prop} [∀ a b, Decidable (C a b)]
    (hc : ∀ j, c j = 1#1 ↔ C (j 0).val (j 1).val) {x y : (⟨2, ![N, M]⟩ : Shape).Idx → α} {f g : ℕ → ℕ → α}
    (hx : Rep x f) (hy : Rep y g) : Rep (select c x y) (fun a b => if C a b then f a b else g a b) := by
  intro j
  have e : Idealize.ShloMosaic.select c x y j = if c j = 1#1 then x j else y j := rfl
  rw [e, hx j, hy j]
  exact if_congr (hc j) rfl rfl

/-- The causal mask: row `f + k` against the lane's query position. -/
theorem maskC {f : ℕ} {P : ℕ → ℕ} {pos : IVec (⟨2, ![1, M]⟩ : Shape) 32} (hpos : Rep pos (fun _ l => BitVec.ofNat 32 (P l)))
    (hP : ∀ l, l < M → P l < 2 ^ 20) (hf : f + N < 2 ^ 20)
    (hi : (⟨2, ![N, M]⟩ : Shape).Iotas .tc 32 [0]) (hb : (⟨2, ![1, M]⟩ : Shape).Broadcasts ⟨2, ![N, M]⟩) (j : (⟨2, ![N, M]⟩ : Shape).Idx) :
    cmpi .sle (addi (broadcast (⟨2, ![N, M]⟩ : Shape) (BitVec.ofNat 32 f)) (iota .tc (⟨2, ![N, M]⟩ : Shape) 32 [0] hi))
      (broadcastTo (⟨2, ![N, M]⟩ : Shape) pos hb) j = 1#1 ↔ f + (j 0).val ≤ P (j 1).val := by
  have e1 : addi (broadcast (⟨2, ![N, M]⟩ : Shape) (BitVec.ofNat 32 f)) (iota .tc (⟨2, ![N, M]⟩ : Shape) 32 [0] hi) j
      = BitVec.ofNat 32 (f + (j 0).val) := by
    change BitVec.ofNat 32 f + iota .tc (⟨2, ![N, M]⟩ : Shape) 32 [0] hi j = _
    rw [iota_single_apply, ← BitVec.ofNat_add]
  have e2 := hpos.bcRow hb j
  have h0 := lt0 j
  have h1 := hP _ (lt1 j)
  change IntOp.cmpi .sle _ _ = 1#1 ↔ _
  rw [e1, e2]
  exact WordCmp.cmpi_sle_ofNat_eq_one_iff (by omega) (by omega)

/-- A row of 128 lanes chosen block by block of 32 lanes by comparing the lane number with 32, 64 and 96. -/
theorem rowSel {g : ℕ → α} {w0 w1 w2 w3 : α} (hi : (⟨2, ![1, 128]⟩ : Shape).Iotas .tc 32 [1])
    (h0 : w0 = g 0) (h1 : w1 = g 1) (h2 : w2 = g 2) (h3 : w3 = g 3) :
    Rep (select (cmpi .slt (iota .tc (⟨2, ![1, 128]⟩ : Shape) 32 [1] hi) (broadcast (⟨2, ![1, 128]⟩ : Shape) 32#32)) (broadcast (⟨2, ![1, 128]⟩ : Shape) w0)
      (select (cmpi .slt (iota .tc (⟨2, ![1, 128]⟩ : Shape) 32 [1] hi) (broadcast (⟨2, ![1, 128]⟩ : Shape) 64#32)) (broadcast (⟨2, ![1, 128]⟩ : Shape) w1)
        (select (cmpi .slt (iota .tc (⟨2, ![1, 128]⟩ : Shape) 32 [1] hi) (broadcast (⟨2, ![1, 128]⟩ : Shape) 96#32)) (broadcast (⟨2, ![1, 128]⟩ : Shape) w2)
          (broadcast (⟨2, ![1, 128]⟩ : Shape) w3)))) (fun _ l => g (l / 32)) := by
  have key : ∀ (T : ℕ), T < 2 ^ 20 → ∀ j : (⟨2, ![1, 128]⟩ : Shape).Idx,
      cmpi .slt (iota .tc (⟨2, ![1, 128]⟩ : Shape) 32 [1] hi) (broadcast (⟨2, ![1, 128]⟩ : Shape) (BitVec.ofNat 32 T)) j = 1#1 ↔ (j 1).val < T := by
    intro T hT j
    have h1 := lt1 j
    change IntOp.cmpi .slt (iota .tc (⟨2, ![1, 128]⟩ : Shape) 32 [1] hi j) (BitVec.ofNat 32 T) = 1#1 ↔ _
    rw [iota_single_apply]
    exact WordCmp.cmpi_slt_ofNat_eq_one_iff (by omega) (by omega)
  refine (Rep.select (C := fun _ l => l < 32) (key 32 (by omega)) (Rep.broadcast _)
    (Rep.select (C := fun _ l => l < 64) (key 64 (by omega)) (Rep.broadcast _)
      (Rep.select (C := fun _ l => l < 96) (key 96 (by omega)) (Rep.broadcast _) (Rep.broadcast _)))).congr ?_
  intro a l _ hl
  subst h0 h1 h2 h3
  by_cases c0 : l < 32
  · rw [if_pos c0]; congr 1; omega
  rw [if_neg c0]
  by_cases c1 : l < 64
  · rw [if_pos c1]; congr 1; omega
  rw [if_neg c1]
  by_cases c2 : l < 96
  · rw [if_pos c2]; congr 1; omega
  rw [if_neg c2]; congr 1; omega

/-- The lanes' query positions: the start of the lane's chunk, plus the lane number modulo 32. -/
theorem rowPos {ro : ℕ → ℕ} {x : IVec (⟨2, ![1, 128]⟩ : Shape) 32} (hx : Rep x (fun _ l => BitVec.ofNat 32 (ro (l / 32))))
    (hi : (⟨2, ![1, 128]⟩ : Shape).Iotas .tc 32 [1]) :
    Rep (addi x (andi (iota .tc (⟨2, ![1, 128]⟩ : Shape) 32 [1] hi) (broadcast (⟨2, ![1, 128]⟩ : Shape) 31#32)))
      (fun _ l => BitVec.ofNat 32 (ro (l / 32) + l % 32)) := by
  intro j
  change x j + (iota .tc (⟨2, ![1, 128]⟩ : Shape) 32 [1] hi j &&& 31#32) = _
  rw [iota_single_apply, hx j]
  refine Eq.trans ?_ (BitVec.ofNat_add _ _).symm
  refine congrArg (BitVec.ofNat 32 (ro ((j 1).val / 32)) + ·) ?_
  have h : ∀ l : Fin 128, BitVec.ofNat 32 l.val &&& 31#32 = BitVec.ofNat 32 (l.val % 32) := by decide
  exact h ⟨(j 1).val, lt1 j⟩

end Cert.Attn
-- ==== Proof.Attn.Group.lean ====
/-
  The kernel's attention block by block: what one query tile computes, as functions of natural numbers.

  `xq`, `xk`, `xv` are one block of query, key and value numbers, `S h q k` the scaled score of head `h`, query `q` and
  key `k`. A tile handles one or two groups of 128 lanes; lane `l` of a group is query `ro (l / 32) + l % 32` of head
  `he (l / 32)`.
-/
module

public import proofs.«01_k».proof.Proof.Attn.Ops

@[expose] public section

noncomputable section

namespace Cert.Attn

open Idealize.ShloMosaic
open scoped BigOperators

/-! ## The mathematics -/

/-- The largest score among keys `0 … q`. -/
def mx (s : ℕ → EReal) (q : ℕ) : EReal := (Finset.range (q + 1)).sup s

/-- The weight of key `k` for query `q`: a power of two, zero for a later key. -/
def ex (s : ℕ → EReal) (q k : ℕ) : EReal := if k ≤ q then Ideal.exp2 (s k - mx s q) else 0

/-- The attention output of query `q` at one dimension, whose values are `v`: the weighted sum times `vs` over the weights' sum. -/
def outOf (v s : ℕ → EReal) (vs : EReal) (q : ℕ) : EReal :=
  (∑ k ∈ Finset.range (q + 1), v k * ex s q k) * Ideal.div vs (∑ k ∈ Finset.range (q + 1), ex s q k)

/-- A sum over more keys than the query sees is the sum over those that it sees. -/
theorem sum_range_seen {n q : ℕ} (hq : q < n) (f : ℕ → EReal) (h : ∀ k, q < k → f k = 0) :
    ∑ k ∈ Finset.range n, f k = ∑ k ∈ Finset.range (q + 1), f k := by
  refine (Finset.sum_subset (Finset.range_subset_range.2 hq) fun k _ hk => h k ?_).symm
  simpa using hk

/-- The supremum of masked scores is the supremum of the scores that are seen. -/
theorem sup_masked {n q : ℕ} (hq : q < n) (s : ℕ → EReal) :
    (Finset.range n).sup (fun k => if k ≤ q then s k else ⊥) = mx s q := by
  refine le_antisymm (Finset.sup_le fun k _ => ?_) (Finset.sup_le fun k hk => ?_)
  · split
    · exact Finset.le_sup (f := s) (Finset.mem_range.2 (by omega))
    · exact bot_le
  · have hk' := Finset.mem_range.1 hk
    refine le_trans (le_of_eq ?_) (Finset.le_sup (f := fun k => if k ≤ q then s k else ⊥) (Finset.mem_range.2 (by omega : k < n)))
    exact (if_pos (by omega)).symm

/-- The weight computed from the masked scores. -/
theorem ex_masked (s : ℕ → EReal) (q k : ℕ) :
    Ideal.exp2 ((if k ≤ q then s k else ⊥) - mx s q) = ex s q k := by
  unfold ex
  split
  · rfl
  · rw [sub_eq_add_neg, EReal.bot_add]; simp

/-! ## Concatenations of 32-row pieces -/

section Pieces
variable {α : Type} {F : ℕ → ℕ → ℕ → α} {M : ℕ}

/-- A piece read through the row number of the whole. -/
theorem piece_at {q : (⟨2, ![32, 128]⟩ : Shape).Idx → α} {i : ℕ} (h : Rep q (F i)) (a : Fin 32) (b : Fin 128) (r : ℕ)
    (hi : r / 32 = i) (ha : r % 32 = a.val) : q (Idealize.ShloMosaic.ix2 a b) = F (r / 32) (r % 32) b.val := by
  rw [hi, ha]; exact h _

/-- A conditional whose two branches are `z`. -/
theorem dite_eq_of {c : Prop} [Decidable c] {β : Type} {A : c → β} {B : ¬ c → β} {z : β} (hA : ∀ h, A h = z) (hB : ∀ h, B h = z) :
    (if h : c then A h else B h) = z := by
  split
  · exact hA _
  · exact hB _

/-- Eight pieces of 32 rows one under another. -/
theorem concat8 {q0 q1 q2 q3 q4 q5 q6 q7 : (⟨2, ![32, 128]⟩ : Shape).Idx → α}
    (h0 : Rep q0 (F 0)) (h1 : Rep q1 (F 1)) (h2 : Rep q2 (F 2)) (h3 : Rep q3 (F 3))
    (h4 : Rep q4 (F 4)) (h5 : Rep q5 (F 5)) (h6 : Rep q6 (F 6)) (h7 : Rep q7 (F 7))
    (hc : Shape.Concatenates [(⟨2, ![32, 128]⟩ : Shape), ⟨2, ![32, 128]⟩, ⟨2, ![32, 128]⟩, ⟨2, ![32, 128]⟩,
      ⟨2, ![32, 128]⟩, ⟨2, ![32, 128]⟩, ⟨2, ![32, 128]⟩, ⟨2, ![32, 128]⟩] ⟨2, ![256, 128]⟩ 0) :
    Rep (concatenate (⟨2, ![256, 128]⟩ : Shape) 0 [⟨⟨2, ![32, 128]⟩, q0⟩, ⟨⟨2, ![32, 128]⟩, q1⟩, ⟨⟨2, ![32, 128]⟩, q2⟩,
      ⟨⟨2, ![32, 128]⟩, q3⟩, ⟨⟨2, ![32, 128]⟩, q4⟩, ⟨⟨2, ![32, 128]⟩, q5⟩, ⟨⟨2, ![32, 128]⟩, q6⟩, ⟨⟨2, ![32, 128]⟩, q7⟩] hc)
      (fun r d => F (r / 32) (r % 32) d) := by
  intro j
  have hj := lt0 j
  pointwise []
  refine dite_eq_of (fun _ => piece_at h0 _ _ (j 0).val (by omega) (by dsimp only; omega)) fun _ => ?_
  refine dite_eq_of (fun _ => piece_at h1 _ _ (j 0).val (by omega) (by dsimp only; omega)) fun _ => ?_
  refine dite_eq_of (fun _ => piece_at h2 _ _ (j 0).val (by omega) (by dsimp only; omega)) fun _ => ?_
  refine dite_eq_of (fun _ => piece_at h3 _ _ (j 0).val (by omega) (by dsimp only; omega)) fun _ => ?_
  refine dite_eq_of (fun _ => piece_at h4 _ _ (j 0).val (by omega) (by dsimp only; omega)) fun _ => ?_
  refine dite_eq_of (fun _ => piece_at h5 _ _ (j 0).val (by omega) (by dsimp only; omega)) fun _ => ?_
  refine dite_eq_of (fun _ => piece_at h6 _ _ (j 0).val (by omega) (by dsimp only; omega)) fun _ => ?_
  exact piece_at h7 _ _ (j 0).val (by omega) (by dsimp only; omega)

/-- Four pieces of 32 rows one under another. -/
theorem concat4 {q0 q1 q2 q3 : (⟨2, ![32, 128]⟩ : Shape).Idx → α}
    (h0 : Rep q0 (F 0)) (h1 : Rep q1 (F 1)) (h2 : Rep q2 (F 2)) (h3 : Rep q3 (F 3))
    (hc : Shape.Concatenates [(⟨2, ![32, 128]⟩ : Shape), ⟨2, ![32, 128]⟩, ⟨2, ![32, 128]⟩, ⟨2, ![32, 128]⟩] ⟨2, ![128, 128]⟩ 0) :
    Rep (concatenate (⟨2, ![128, 128]⟩ : Shape) 0 [⟨⟨2, ![32, 128]⟩, q0⟩, ⟨⟨2, ![32, 128]⟩, q1⟩, ⟨⟨2, ![32, 128]⟩, q2⟩,
      ⟨⟨2, ![32, 128]⟩, q3⟩] hc)
      (fun r d => F (r / 32) (r % 32) d) := by
  intro j
  have hj := lt0 j
  pointwise []
  refine dite_eq_of (fun _ => piece_at h0 _ _ (j 0).val (by omega) (by dsimp only; omega)) fun _ => ?_
  refine dite_eq_of (fun _ => piece_at h1 _ _ (j 0).val (by omega) (by dsimp only; omega)) fun _ => ?_
  refine dite_eq_of (fun _ => piece_at h2 _ _ (j 0).val (by omega) (by dsimp only; omega)) fun _ => ?_
  exact piece_at h3 _ _ (j 0).val (by omega) (by dsimp only; omega)

end Pieces

/-! ## One group of 128 lanes

In what follows `s l k` is lane `l`'s score of key `k`, `P l` its query, `vs` the value scale and `v d k` the value of key
`k` at dimension `d`. -/

section Lanes
variable {s : ℕ → ℕ → EReal} {P : ℕ → ℕ} {n : ℕ}

/-- The weights of a group from its masked scores `sm`. -/
theorem weights {sm : (⟨2, ![n, 128]⟩ : Shape).Idx → EReal} (h : Rep sm (fun k l => if k ≤ P l then s l k else ⊥))
    (hP : ∀ l, l < 128 → P l < n)
    (hr : (⟨2, ![n, 128]⟩ : Shape).Reduces [0] ⟨1, ![128]⟩) (hφ : FKind.Formats .f32)
    (hacc : (0xFF800000#32 : BitVec 32) = FKind.maximumf.neutral .f32 hφ)
    (hs : (⟨1, ![128]⟩ : Shape).ShapeCasts ⟨2, ![1, 128]⟩) (hb : (⟨2, ![1, 128]⟩ : Shape).Broadcasts ⟨2, ![n, 128]⟩) :
    Rep (exp2 (F := Ideal) (φ := .f32) (subf (F := Ideal) (φ := .f32) sm (broadcastTo (⟨2, ![n, 128]⟩ : Shape)
      (shapeCast (⟨2, ![1, 128]⟩ : Shape) (multiReduction (F := Ideal) (φ := .f32) .maximumf [0] ⟨1, ![128]⟩ sm 0xFF800000#32 hr hφ hacc) hs) hb)))
      (fun k l => ex (s l) (P l) k) := by
  refine ((h.subf ((maxRow h hr hφ hacc hs).bcRow hb)).exp2).congr fun k l _ hl => ?_
  rw [sup_masked (hP l hl), ex_masked]

/-- The value scale over the sum of the weights. -/
theorem invRow {vs : EReal} {e : (⟨2, ![n, 128]⟩ : Shape).Idx → EReal} (he : Rep e (fun k l => ex (s l) (P l) k))
    (hP : ∀ l, l < 128 → P l < n)
    (hr : (⟨2, ![n, 128]⟩ : Shape).Reduces [0] ⟨1, ![128]⟩) (hφ : FKind.Formats .f32)
    (hacc : (0#32 : BitVec 32) = FKind.add.neutral .f32 hφ)
    (hs : (⟨1, ![128]⟩ : Shape).ShapeCasts ⟨2, ![1, 128]⟩) :
    Rep (divf (F := Ideal) (φ := .f32) (broadcast (⟨2, ![1, 128]⟩ : Shape) vs)
      (shapeCast (⟨2, ![1, 128]⟩ : Shape) (multiReduction (F := Ideal) (φ := .f32) .add [0] ⟨1, ![128]⟩ e 0#32 hr hφ hacc) hs))
      (fun _ l => Ideal.div vs (∑ k ∈ Finset.range (P l + 1), ex (s l) (P l) k)) := by
  refine ((Rep.broadcast vs).divf (sumRow he hr hφ hacc hs)).congr fun k l _ hl => ?_
  rw [sum_range_seen (hP l hl)]
  intro k hk
  exact if_neg (by omega)

/-- Weights with zero rows added below. -/
theorem padded {m N : ℕ} {e : (⟨2, ![n, 128]⟩ : Shape).Idx → EReal} (he : Rep e (fun k l => ex (s l) (P l) k))
    (hP : ∀ l, l < 128 → P l < n) (ht : FTy.bits .bf16 < FTy.bits .f32)
    (hc : Shape.Concatenates [(⟨2, ![n, 128]⟩ : Shape), ⟨2, ![m, 128]⟩] ⟨2, ![N, 128]⟩ 0) :
    Rep (concatenate (⟨2, ![N, 128]⟩ : Shape) 0 [⟨⟨2, ![n, 128]⟩, truncf (F := Ideal) (φ := .f32) .bf16 e ht⟩,
      ⟨⟨2, ![m, 128]⟩, broadcast (⟨2, ![m, 128]⟩ : Shape) (FloatOps.ofBits (F := Ideal) .bf16 0#16)⟩] hc)
      (fun k l => ex (s l) (P l) k) := by
  refine ((he.truncf (φ := .f32) ht).concatRows (Rep.broadcast _) hc).congr fun k l _ hl => ?_
  split
  · rfl
  · have := hP l hl
    have hk : ¬ k ≤ P l := by omega
    rw [show ex (s l) (P l) k = 0 from if_neg hk]
    simp [Ideal.ofBits, Ideal.ieee]

/-- Any array is read by some function. -/
theorem Rep.exists {α : Type} [Nonempty α] {N M : ℕ} (x : (⟨2, ![N, M]⟩ : Shape).Idx → α) : ∃ f, Rep x f := by
  classical
  refine ⟨fun a b => if h : a < N ∧ b < M then x (at2 ⟨a, h.1⟩ ⟨b, h.2⟩) else Classical.arbitrary α, fun j => ?_⟩
  change x j = if h : (j 0).val < N ∧ (j 1).val < M then x (at2 ⟨(j 0).val, h.1⟩ ⟨(j 1).val, h.2⟩) else Classical.arbitrary α
  rw [dif_pos (⟨lt0 j, lt1 j⟩ : (j 0).val < N ∧ (j 1).val < M)]
  exact congrArg x (eq_ix2 j)

variable {v : ℕ → ℕ → EReal} {vs : EReal} {N : ℕ}

/-- The output rows of a group from the product of values and weights. -/
theorem outOfProduct {o : (⟨2, ![128, 128]⟩ : Shape).Idx → EReal} {inv : (⟨2, ![1, 128]⟩ : Shape).Idx → EReal}
    (ho : Rep o (fun d l => ∑ k ∈ Finset.range N, v d k * ex (s l) (P l) k))
    (hinv : Rep inv (fun _ l => Ideal.div vs (∑ k ∈ Finset.range (P l + 1), ex (s l) (P l) k)))
    (hP : ∀ l, l < 128 → P l < N) (hb : (⟨2, ![1, 128]⟩ : Shape).Broadcasts ⟨2, ![128, 128]⟩)
    (htr : (⟨2, ![128, 128]⟩ : Shape).Transposes [1, 0] ⟨2, ![128, 128]⟩) (ht : FTy.bits .bf16 < FTy.bits .f32) :
    Rep (truncf (F := Ideal) (φ := .f32) .bf16 (transpose (⟨2, ![128, 128]⟩ : Shape) [1, 0]
      (mulf (F := Ideal) (φ := .f32) o (broadcastTo (⟨2, ![128, 128]⟩ : Shape) inv hb)) htr) ht)
      (fun l d => outOf (v d) (s l) vs (P l)) := by
  refine ((((ho.mulf (φ := .f32) (hinv.bcRow hb)).transpose htr).truncf (φ := .f32) ht)).congr fun l d hl _ => ?_
  unfold outOf
  rw [sum_range_seen (hP l hl)]
  intro k hk
  rw [show ex (s l) (P l) k = 0 from if_neg (by omega), mul_zero]

/-- The product of the values and the left group's weights. -/
theorem productL {vt : (⟨2, ![128, N]⟩ : Shape).Idx → EReal} {p1 p2 : (⟨2, ![N, 128]⟩ : Shape).Idx → EReal} {w : ℕ → ℕ → EReal}
    (hv : Rep vt v) (hp : Rep p1 w) (hc : Shape.Concatenates [(⟨2, ![N, 128]⟩ : Shape), ⟨2, ![N, 128]⟩] ⟨2, ![N, 256]⟩ 1)
    {d : DotDims (⟨2, ![128, N]⟩ : Shape) ⟨2, ![N, 256]⟩ ⟨2, ![128, 256]⟩} (hd : d = DotDims.plain 128 N 256)
    (prec : Option ContractPrecision) (hs : (⟨2, ![128, 256]⟩ : Shape).Slices ![0, 0] ⟨2, ![128, 128]⟩) :
    Rep (extractStridedSlice (⟨2, ![128, 128]⟩ : Shape) ![0, 0] (matmul (F := Ideal) (φ₁ := .bf16) (φ₂ := .bf16) d prec vt
      (concatenate (⟨2, ![N, 256]⟩ : Shape) 1 [⟨⟨2, ![N, 128]⟩, p1⟩, ⟨⟨2, ![N, 128]⟩, p2⟩] hc) (constant ⟨2, ![128, 256]⟩ .f32 0#32)) hs)
      (fun a b => ∑ k ∈ Finset.range N, v a k * w k b) := by
  obtain ⟨g, hg⟩ := Rep.exists p2
  refine ((hv.matmulPlain (φ₁ := .bf16) (φ₂ := .bf16) (hp.concatCols hg hc) hd prec).slice 0 0 hs).congr fun a b _ hb => ?_
  refine Finset.sum_congr rfl fun k _ => ?_
  rw [Nat.zero_add, Nat.zero_add, if_pos hb]

/-- The product of the values and the right group's weights. -/
theorem productR {vt : (⟨2, ![128, N]⟩ : Shape).Idx → EReal} {p1 p2 : (⟨2, ![N, 128]⟩ : Shape).Idx → EReal} {w : ℕ → ℕ → EReal}
    (hv : Rep vt v) (hp : Rep p2 w) (hc : Shape.Concatenates [(⟨2, ![N, 128]⟩ : Shape), ⟨2, ![N, 128]⟩] ⟨2, ![N, 256]⟩ 1)
    {d : DotDims (⟨2, ![128, N]⟩ : Shape) ⟨2, ![N, 256]⟩ ⟨2, ![128, 256]⟩} (hd : d = DotDims.plain 128 N 256)
    (prec : Option ContractPrecision) (hs : (⟨2, ![128, 256]⟩ : Shape).Slices ![0, 128] ⟨2, ![128, 128]⟩) :
    Rep (extractStridedSlice (⟨2, ![128, 128]⟩ : Shape) ![0, 128] (matmul (F := Ideal) (φ₁ := .bf16) (φ₂ := .bf16) d prec vt
      (concatenate (⟨2, ![N, 256]⟩ : Shape) 1 [⟨⟨2, ![N, 128]⟩, p1⟩, ⟨⟨2, ![N, 128]⟩, p2⟩] hc) (constant ⟨2, ![128, 256]⟩ .f32 0#32)) hs)
      (fun a b => ∑ k ∈ Finset.range N, v a k * w k b) := by
  obtain ⟨g, hg⟩ := Rep.exists p1
  refine ((hv.matmulPlain (φ₁ := .bf16) (φ₂ := .bf16) (hg.concatCols hp hc) hd prec).slice 0 128 hs).congr fun a b _ hb => ?_
  refine Finset.sum_congr rfl fun k _ => ?_
  rw [Nat.zero_add, if_neg (by omega), Nat.add_sub_cancel_left]

/-- Masked scores of a group whose every row is compared with the lanes' queries. -/
theorem mask0 {sc : (⟨2, ![n, 128]⟩ : Shape).Idx → EReal} {pos : IVec (⟨2, ![1, 128]⟩ : Shape) 32}
    (h : Rep sc (fun k l => s l k)) (hpos : Rep pos (fun _ l => BitVec.ofNat 32 (P l)))
    (hP : ∀ l, l < 128 → P l < n) (hn : n < 2 ^ 19)
    (hi : (⟨2, ![n, 128]⟩ : Shape).Iotas .tc 32 [0]) (hb : (⟨2, ![1, 128]⟩ : Shape).Broadcasts ⟨2, ![n, 128]⟩) :
    Rep (select (cmpi .sle (addi (broadcast (⟨2, ![n, 128]⟩ : Shape) 0#32) (iota .tc (⟨2, ![n, 128]⟩ : Shape) 32 [0] hi))
      (broadcastTo (⟨2, ![n, 128]⟩ : Shape) pos hb)) sc (broadcast (⟨2, ![n, 128]⟩ : Shape) (FloatOps.ofBits (F := Ideal) .f32 0xFF800000#32)))
      (fun k l => if k ≤ P l then s l k else ⊥) := by
  refine (Rep.select (C := fun k l => 0 + k ≤ P l) (maskC hpos (fun l hl => by have := hP l hl; omega) (by omega) hi hb) h
    (Rep.broadcast _)).congr fun k l _ _ => ?_
  rw [Nat.zero_add, negInf]

/-- Masked scores of a group whose first `f` rows every lane sees. -/
theorem maskF {f m : ℕ} {sc : (⟨2, ![n, 128]⟩ : Shape).Idx → EReal} {pos : IVec (⟨2, ![1, 128]⟩ : Shape) 32}
    (h : Rep sc (fun k l => s l k)) (hpos : Rep pos (fun _ l => BitVec.ofNat 32 (P l)))
    (hP : ∀ l, l < 128 → P l < n) (hf : ∀ l, l < 128 → f ≤ P l) (hn : n < 2 ^ 19) (hm : m < 2 ^ 19)
    (hi : (⟨2, ![m, 128]⟩ : Shape).Iotas .tc 32 [0]) (hb : (⟨2, ![1, 128]⟩ : Shape).Broadcasts ⟨2, ![m, 128]⟩)
    (hsf : (⟨2, ![n, 128]⟩ : Shape).Slices ![0, 0] ⟨2, ![f, 128]⟩) (hst : (⟨2, ![n, 128]⟩ : Shape).Slices ![f, 0] ⟨2, ![m, 128]⟩)
    (hc : Shape.Concatenates [(⟨2, ![f, 128]⟩ : Shape), ⟨2, ![m, 128]⟩] ⟨2, ![n, 128]⟩ 0) :
    Rep (concatenate (⟨2, ![n, 128]⟩ : Shape) 0 [⟨⟨2, ![f, 128]⟩, extractStridedSlice (⟨2, ![f, 128]⟩ : Shape) ![0, 0] sc hsf⟩,
      ⟨⟨2, ![m, 128]⟩, select (cmpi .sle (addi (broadcast (⟨2, ![m, 128]⟩ : Shape) (BitVec.ofNat 32 f)) (iota .tc (⟨2, ![m, 128]⟩ : Shape) 32 [0] hi))
        (broadcastTo (⟨2, ![m, 128]⟩ : Shape) pos hb)) (extractStridedSlice (⟨2, ![m, 128]⟩ : Shape) ![f, 0] sc hst)
        (broadcast (⟨2, ![m, 128]⟩ : Shape) (FloatOps.ofBits (F := Ideal) .f32 0xFF800000#32))⟩] hc)
      (fun k l => if k ≤ P l then s l k else ⊥) := by
  have hfn : f < n := by have := hP 0 (by omega); have := hf 0 (by omega); omega
  refine ((h.slice 0 0 hsf).concatRows (Rep.select (C := fun k l => f + k ≤ P l)
    (maskC hpos (fun l hl => by have := hP l hl; omega) (by omega) hi hb) (h.slice f 0 hst) (Rep.broadcast _)) hc).congr
    fun k l _ hl => ?_
  have := hf l hl
  by_cases hk : k < f
  · rw [if_pos hk, if_pos (by omega), Nat.zero_add, Nat.zero_add]
  · rw [if_neg hk, negInf, Nat.add_sub_cancel' (by omega : f ≤ k), Nat.zero_add]

end Lanes

end Cert.Attn
-- ==== Proof.Attn.Tile.lean ====
/-
  The pieces of one query tile: loads of the blocks, the scores of a group, its output rows and their stores.
-/
module

public import proofs.«01_k».proof.Proof.Attn.Group
public import proofs.«01_k».proof.Proof.Gen.KernelIdeal.Frame
public import Idealize.ShloMosaic.Lib.WholeRead
public import Idealize.ShloMosaic.Lib.VecWindow
public import Idealize.ShloMosaic.Lib.Pipeline.ReadBack

@[expose] public section

noncomputable section

namespace Cert.Attn

open Idealize.ShloMosaic Cert.KernelIdeal
open scoped BigOperators

/-- A one-axis array as a function of a natural number (zero outside). -/
def val1 {N : ℕ} (x : (⟨1, ![N]⟩ : Shape).Idx → EReal) (a : ℕ) : EReal :=
  if h : a < N then x (ix1 ⟨a, h⟩) else 0

/-- A block with a leading unit axis as a function of two natural numbers (zero outside). -/
def val3 {N M : ℕ} (x : (⟨3, ![1, N, M]⟩ : Shape).Idx → EReal) (a b : ℕ) : EReal :=
  if h : a < N ∧ b < M then x (ix3 0 ⟨a, h.1⟩ ⟨b, h.2⟩) else 0

theorem val3_eq {N M : ℕ} (x : (⟨3, ![1, N, M]⟩ : Shape).Idx → EReal) (y : (⟨3, ![1, N, M]⟩ : Shape).Idx) (a b : ℕ)
    (ha : (y 1).val = a) (hb : (y 2).val = b) : x y = val3 x a b := by
  subst ha hb
  have h1 : (y 1).val < N := (y 1).isLt
  have h2 : (y 2).val < M := (y 2).isLt
  unfold val3
  rw [dif_pos ⟨h1, h2⟩]
  congr 1
  funext k
  match k with
  | ⟨0, _⟩ => exact Fin.ext (by have := (y 0).isLt; change (y 0).val < 1 at this; change (y 0).val = 0; omega)
  | ⟨1, _⟩ => rfl
  | ⟨2, _⟩ => rfl

theorem val1_eq {N : ℕ} (x : (⟨1, ![N]⟩ : Shape).Idx → EReal) (y : (⟨1, ![N]⟩ : Shape).Idx) (a : ℕ)
    (ha : (y 0).val = a) : x y = val1 x a := by
  subst ha
  have h1 : (y 0).val < N := (y 0).isLt
  unfold val1
  rw [dif_pos h1]
  congr 1
  funext k
  match k with
  | ⟨0, _⟩ => rfl

/-! ## The kernel's result on one block -/

section Spec
variable (sc : ℕ → EReal) (xq xk xv : ℕ → ℕ → EReal) (vs : EReal)

/-- The scaled score of head `h`, query `q` and key `k`. -/
def scoreOf (h q k : ℕ) : EReal := (∑ d ∈ Finset.range 128, xk k d * xq q (128 * h + d)) * sc h

/-- The output of head `h`, query `q` at dimension `d`. -/
def attOf (h q d : ℕ) : EReal := outOf (fun k => xv k d) (scoreOf sc xq xk h q) vs q

/-- The output block: row `q`, column `128 h + d`. -/
def blockOf (y : S1x640x640.Idx) : EReal := attOf sc xq xk xv vs ((y 2).val / 128) (y 1).val ((y 2).val % 128)

end Spec

variable {sc : ℕ → EReal} {xq xk xv : ℕ → ℕ → EReal} {vs : EReal}

/-! ## Loads -/

/-- A rectangle of a block of float8 numbers, its leading unit axis dropped. -/
theorem loadPiece {N M : ℕ} {arg : Memref sig .tc .vmem (⟨3, ![1, N, M]⟩ : Shape) .fp8e4m3} (harg : arg.IsWhole)
    (x : Vec Ideal (⟨3, ![1, N, M]⟩ : Shape) .fp8e4m3) {n m o1 o2 : ℕ}
    (inb : ∀ a, (![0, o1, o2] : Fin 3 → ℕ) a + (![1, n, m] : Fin 3 → ℕ) a ≤ (⟨3, ![1, N, M]⟩ : Shape).size a)
    (h : (⟨3, ![1, n, m]⟩ : Shape).ShapeCasts ⟨2, ![n, m]⟩) :
    Rep (shapeCast (s := (⟨3, ![1, n, m]⟩ : Shape)) (⟨2, ![n, m]⟩ : Shape)
      (View.readAt (Elt Ideal) arg.view (Rect.unit (s := (⟨3, ![1, N, M]⟩ : Shape)) ![0, o1, o2] ![1, n, m] inb).toLoadRect (harg.unread x)) h)
      (fun a b => val3 (N := N) (M := M) x (o1 + a) (o2 + b)) := by
  intro j
  refine (shapeCast_dropUnit_apply ![n, m] _ h j).trans ?_
  refine (harg.readAt_unread x _ _).trans (val3_eq x _ _ _ ?_ ?_)
  · exact congrArg (o1 + ·) (Nat.one_mul _)
  · exact congrArg (o2 + ·) (Nat.one_mul _)

/-- The scratch buffer's first `n` columns, after the values were stored in it transposed. -/
theorem loadValues {arg7 : Memref sig .tc .vmem S1x640x128 .fp8e4m3} (harg7 : arg7.IsWhole) (arg9 : Memref sig .tc .vmem S128x640 .bf16)
    (x : Vec Ideal S1x640x128 .fp8e4m3) {n : ℕ}
    (inb7 : ∀ a, (![0, 0, 0] : Fin 3 → ℕ) a + S1x640x128.size a ≤ S1x640x128.size a)
    (inb9 : ∀ a, (![0, 0] : Fin 2 → ℕ) a + S128x640.size a ≤ S128x640.size a)
    (inbn : ∀ a, (![0, 0] : Fin 2 → ℕ) a + (![128, n] : Fin 2 → ℕ) a ≤ S128x640.size a) :
    Rep (N := 128) (M := n) (arg9.view.readCov (Val := Elt Ideal) [⟨Rect.unit ![0, 0] S128x640.size inb9,
      Gen.k0_pay6 (View.readAt (Elt Ideal) arg7.view (Rect.unit ![0, 0, 0] S1x640x128.size inb7).toLoadRect (harg7.unread x))⟩]
      (Rect.unit ![0, 0] ![128, n] inbn).toLoadRect)
      (fun a b => val3 (N := 640) (M := 128) x b a) := by
  have hp : Rep (N := 128) (M := 640) (Gen.k0_pay6 (View.readAt (Elt Ideal) arg7.view (Rect.unit ![0, 0, 0] S1x640x128.size inb7).toLoadRect (harg7.unread x)))
      (fun a b => val3 (N := 640) (M := 128) x b a) := by
    have h := loadPiece (n := 640) (m := 128) (o1 := 0) (o2 := 0) harg7 x inb7 Facts₀.shapeCasts_S1x640x128_S640x128
    have h' := h.transpose Facts₀.transposes_S640x128_p1_0_S128x640
    intro j
    refine (congrFun (shapeCast_self _ _) j).trans ((h' j).trans ?_)
    simp only [Nat.zero_add]
  intro j
  rw [View.readCov_fill arg9.view inb9 _ _ _ (by intro a; match a with | ⟨0, _⟩ => rfl | ⟨1, _⟩ => rfl)]
  refine (hp _).trans ?_
  congr 1
  · exact (Nat.zero_add _).trans (Nat.one_mul _)
  · exact (Nat.zero_add _).trans (Nat.one_mul _)

/-! ## Lanes

Lane `l` of a group stands for query `ro (l / 32) + l % 32` of head `he (l / 32)`. -/

/-- A group's output rows: lane `l`'s output at dimension `d`. -/
def attRows (sc : ℕ → EReal) (xq xk xv : ℕ → ℕ → EReal) (vs : EReal) (ro he : ℕ → ℕ) (l d : ℕ) : EReal :=
  attOf sc xq xk xv vs (he (l / 32)) (ro (l / 32) + l % 32) d

/-- A group's weights: key `k`'s weight for lane `l`. -/
def wts (sc : ℕ → EReal) (xq xk : ℕ → ℕ → EReal) (ro he : ℕ → ℕ) (k l : ℕ) : EReal :=
  ex (scoreOf sc xq xk (he (l / 32)) (ro (l / 32) + l % 32)) (ro (l / 32) + l % 32) k

/-- A group's products: key `k` times lane `l`'s query. -/
def dots (xq xk : ℕ → ℕ → EReal) (ro he : ℕ → ℕ) (k l : ℕ) : EReal :=
  ∑ d ∈ Finset.range 128, xk k d * xq (ro (l / 32) + l % 32) (128 * he (l / 32) + d)

/-- A group's scales, the same for every key. -/
def laneScale (sc : ℕ → EReal) (he : ℕ → ℕ) (_ l : ℕ) : EReal := sc (he (l / 32))

theorem lanes {ro : ℕ → ℕ} {n : ℕ} (hP : ∀ j, j < 4 → ro j + 32 ≤ n) (l : ℕ) (hl : l < 128) : ro (l / 32) + l % 32 < n := by
  have := hP (l / 32) (by omega)
  omega

/-! ## Scores -/

/-- The scores of a group of 128 lanes taken from the product of keys and queries: `st` is the product's half, `scale` the lanes' scales. -/
theorem scaled {n : ℕ} {ro he : ℕ → ℕ} {st : (⟨2, ![n, 128]⟩ : Shape).Idx → EReal} {scale : (⟨2, ![1, 128]⟩ : Shape).Idx → EReal}
    (h : Rep st (dots xq xk ro he))
    (hs : Rep scale (laneScale sc he)) (hb : (⟨2, ![1, 128]⟩ : Shape).Broadcasts ⟨2, ![n, 128]⟩) :
    Rep (mulf (F := Ideal) (φ := .f32) st (broadcastTo (⟨2, ![n, 128]⟩ : Shape) scale hb))
      (fun k l => scoreOf sc xq xk (he (l / 32)) (ro (l / 32) + l % 32) k) :=
  h.mulf (hs.bcRow hb)

/-- The left half of a product of keys with eight pieces of queries. -/
theorem scoresL {N n : ℕ} {ro he : ℕ → ℕ} {kk : (⟨2, ![N, 128]⟩ : Shape).Idx → EReal} (hk : Rep kk xk)
    {q0 q1 q2 q3 q4 q5 q6 q7 : (⟨2, ![32, 128]⟩ : Shape).Idx → EReal}
    (h0 : Rep q0 (fun a d => xq (ro 0 + a) (128 * he 0 + d))) (h1 : Rep q1 (fun a d => xq (ro 1 + a) (128 * he 1 + d)))
    (h2 : Rep q2 (fun a d => xq (ro 2 + a) (128 * he 2 + d))) (h3 : Rep q3 (fun a d => xq (ro 3 + a) (128 * he 3 + d)))
    (hc : Shape.Concatenates [(⟨2, ![32, 128]⟩ : Shape), ⟨2, ![32, 128]⟩, ⟨2, ![32, 128]⟩, ⟨2, ![32, 128]⟩,
      ⟨2, ![32, 128]⟩, ⟨2, ![32, 128]⟩, ⟨2, ![32, 128]⟩, ⟨2, ![32, 128]⟩] ⟨2, ![256, 128]⟩ 0)
    {d : DotDims (⟨2, ![N, 128]⟩ : Shape) ⟨2, ![256, 128]⟩ ⟨2, ![N, 256]⟩} (hd : d = DotDims.transposedRhs N 128 256)
    (prec : Option ContractPrecision) (hs : (⟨2, ![N, 256]⟩ : Shape).Slices ![0, 0] ⟨2, ![n, 128]⟩) :
    Rep (extractStridedSlice (⟨2, ![n, 128]⟩ : Shape) ![0, 0] (matmul (F := Ideal) (φ₁ := .fp8e4m3) (φ₂ := .fp8e4m3) d prec kk
      (concatenate (⟨2, ![256, 128]⟩ : Shape) 0 [⟨⟨2, ![32, 128]⟩, q0⟩, ⟨⟨2, ![32, 128]⟩, q1⟩, ⟨⟨2, ![32, 128]⟩, q2⟩,
      ⟨⟨2, ![32, 128]⟩, q3⟩, ⟨⟨2, ![32, 128]⟩, q4⟩, ⟨⟨2, ![32, 128]⟩, q5⟩, ⟨⟨2, ![32, 128]⟩, q6⟩, ⟨⟨2, ![32, 128]⟩, q7⟩] hc)
      (constant ⟨2, ![N, 256]⟩ .f32 0#32)) hs)
      (dots xq xk ro he) := by
  obtain ⟨f4, g4⟩ := Rep.exists q4
  obtain ⟨f5, g5⟩ := Rep.exists q5
  obtain ⟨f6, g6⟩ := Rep.exists q6
  obtain ⟨f7, g7⟩ := Rep.exists q7
  refine ((hk.matmulT (φ₁ := .fp8e4m3) (φ₂ := .fp8e4m3) (concat8 (F := fun i a d => match i with
    | 4 => f4 a d | 5 => f5 a d | 6 => f6 a d | 7 => f7 a d | i => xq (ro i + a) (128 * he i + d))
    h0 h1 h2 h3 g4 g5 g6 g7 hc) hd prec).slice 0 0 hs).congr fun k l _ hl => ?_
  refine Finset.sum_congr rfl fun d _ => ?_
  rw [Nat.zero_add, Nat.zero_add]
  obtain e | e | e | e : l / 32 = 0 ∨ l / 32 = 1 ∨ l / 32 = 2 ∨ l / 32 = 3 := by omega
  all_goals (rw [e]; rfl)

/-- The right half of a product of keys with eight pieces of queries. -/
theorem scoresR {N n : ℕ} {ro he : ℕ → ℕ} {kk : (⟨2, ![N, 128]⟩ : Shape).Idx → EReal} (hk : Rep kk xk)
    {q0 q1 q2 q3 q4 q5 q6 q7 : (⟨2, ![32, 128]⟩ : Shape).Idx → EReal}
    (h0 : Rep q4 (fun a d => xq (ro 0 + a) (128 * he 0 + d))) (h1 : Rep q5 (fun a d => xq (ro 1 + a) (128 * he 1 + d)))
    (h2 : Rep q6 (fun a d => xq (ro 2 + a) (128 * he 2 + d))) (h3 : Rep q7 (fun a d => xq (ro 3 + a) (128 * he 3 + d)))
    (hc : Shape.Concatenates [(⟨2, ![32, 128]⟩ : Shape), ⟨2, ![32, 128]⟩, ⟨2, ![32, 128]⟩, ⟨2, ![32, 128]⟩,
      ⟨2, ![32, 128]⟩, ⟨2, ![32, 128]⟩, ⟨2, ![32, 128]⟩, ⟨2, ![32, 128]⟩] ⟨2, ![256, 128]⟩ 0)
    {d : DotDims (⟨2, ![N, 128]⟩ : Shape) ⟨2, ![256, 128]⟩ ⟨2, ![N, 256]⟩} (hd : d = DotDims.transposedRhs N 128 256)
    (prec : Option ContractPrecision) (hs : (⟨2, ![N, 256]⟩ : Shape).Slices ![0, 128] ⟨2, ![n, 128]⟩) :
    Rep (extractStridedSlice (⟨2, ![n, 128]⟩ : Shape) ![0, 128] (matmul (F := Ideal) (φ₁ := .fp8e4m3) (φ₂ := .fp8e4m3) d prec kk
      (concatenate (⟨2, ![256, 128]⟩ : Shape) 0 [⟨⟨2, ![32, 128]⟩, q0⟩, ⟨⟨2, ![32, 128]⟩, q1⟩, ⟨⟨2, ![32, 128]⟩, q2⟩,
      ⟨⟨2, ![32, 128]⟩, q3⟩, ⟨⟨2, ![32, 128]⟩, q4⟩, ⟨⟨2, ![32, 128]⟩, q5⟩, ⟨⟨2, ![32, 128]⟩, q6⟩, ⟨⟨2, ![32, 128]⟩, q7⟩] hc)
      (constant ⟨2, ![N, 256]⟩ .f32 0#32)) hs)
      (dots xq xk ro he) := by
  obtain ⟨f0, g0⟩ := Rep.exists q0
  obtain ⟨f1, g1⟩ := Rep.exists q1
  obtain ⟨f2, g2⟩ := Rep.exists q2
  obtain ⟨f3, g3⟩ := Rep.exists q3
  refine ((hk.matmulT (φ₁ := .fp8e4m3) (φ₂ := .fp8e4m3) (concat8 (F := fun i a d => match i with
    | 0 => f0 a d | 1 => f1 a d | 2 => f2 a d | 3 => f3 a d | i + 4 => xq (ro i + a) (128 * he i + d))
    g0 g1 g2 g3 h0 h1 h2 h3 hc) hd prec).slice 0 128 hs).congr fun k l _ hl => ?_
  refine Finset.sum_congr rfl fun d _ => ?_
  rw [Nat.zero_add, show (128 + l) / 32 = l / 32 + 4 by omega, show (128 + l) % 32 = l % 32 by omega]

/-- A product of keys with four pieces of queries. -/
theorem scoresOne {N : ℕ} {ro he : ℕ → ℕ} {kk : (⟨2, ![N, 128]⟩ : Shape).Idx → EReal} (hk : Rep kk xk)
    {q0 q1 q2 q3 : (⟨2, ![32, 128]⟩ : Shape).Idx → EReal}
    (h0 : Rep q0 (fun a d => xq (ro 0 + a) (128 * he 0 + d))) (h1 : Rep q1 (fun a d => xq (ro 1 + a) (128 * he 1 + d)))
    (h2 : Rep q2 (fun a d => xq (ro 2 + a) (128 * he 2 + d))) (h3 : Rep q3 (fun a d => xq (ro 3 + a) (128 * he 3 + d)))
    (hc : Shape.Concatenates [(⟨2, ![32, 128]⟩ : Shape), ⟨2, ![32, 128]⟩, ⟨2, ![32, 128]⟩, ⟨2, ![32, 128]⟩] ⟨2, ![128, 128]⟩ 0)
    {d : DotDims (⟨2, ![N, 128]⟩ : Shape) ⟨2, ![128, 128]⟩ ⟨2, ![N, 128]⟩} (hd : d = DotDims.transposedRhs N 128 128)
    (prec : Option ContractPrecision) :
    Rep (matmul (F := Ideal) (φ₁ := .fp8e4m3) (φ₂ := .fp8e4m3) d prec kk
      (concatenate (⟨2, ![128, 128]⟩ : Shape) 0 [⟨⟨2, ![32, 128]⟩, q0⟩, ⟨⟨2, ![32, 128]⟩, q1⟩, ⟨⟨2, ![32, 128]⟩, q2⟩,
      ⟨⟨2, ![32, 128]⟩, q3⟩] hc) (constant ⟨2, ![N, 128]⟩ .f32 0#32))
      (dots xq xk ro he) :=
  hk.matmulT (φ₁ := .fp8e4m3) (φ₂ := .fp8e4m3) (concat4 (F := fun i a d => xq (ro i + a) (128 * he i + d)) h0 h1 h2 h3 hc) hd prec

/-! ## A group's weights -/

section Weights
variable {n : ℕ} {ro he : ℕ → ℕ} {st : (⟨2, ![n, 128]⟩ : Shape).Idx → EReal} {scale : (⟨2, ![1, 128]⟩ : Shape).Idx → EReal} {w0 w1 w2 w3 : BitVec 32}

/-- The lanes' queries as the kernel computes them. -/
abbrev posWords (hi : (⟨2, ![1, 128]⟩ : Shape).Iotas .tc 32 [1]) (w0 w1 w2 w3 : BitVec 32) : IVec (⟨2, ![1, 128]⟩ : Shape) 32 :=
  addi (select (cmpi .slt (iota .tc (⟨2, ![1, 128]⟩ : Shape) 32 [1] hi) (broadcast (⟨2, ![1, 128]⟩ : Shape) 32#32)) (broadcast (⟨2, ![1, 128]⟩ : Shape) w0)
    (select (cmpi .slt (iota .tc (⟨2, ![1, 128]⟩ : Shape) 32 [1] hi) (broadcast (⟨2, ![1, 128]⟩ : Shape) 64#32)) (broadcast (⟨2, ![1, 128]⟩ : Shape) w1)
      (select (cmpi .slt (iota .tc (⟨2, ![1, 128]⟩ : Shape) 32 [1] hi) (broadcast (⟨2, ![1, 128]⟩ : Shape) 96#32)) (broadcast (⟨2, ![1, 128]⟩ : Shape) w2)
        (broadcast (⟨2, ![1, 128]⟩ : Shape) w3))))
    (andi (iota .tc (⟨2, ![1, 128]⟩ : Shape) 32 [1] hi) (broadcast (⟨2, ![1, 128]⟩ : Shape) 31#32))

theorem posWords_rep (hi : (⟨2, ![1, 128]⟩ : Shape).Iotas .tc 32 [1]) (h0 : w0 = BitVec.ofNat 32 (ro 0)) (h1 : w1 = BitVec.ofNat 32 (ro 1))
    (h2 : w2 = BitVec.ofNat 32 (ro 2)) (h3 : w3 = BitVec.ofNat 32 (ro 3)) :
    Rep (posWords hi w0 w1 w2 w3) (fun _ l => BitVec.ofNat 32 (ro (l / 32) + l % 32)) :=
  rowPos (rowSel (g := fun j => BitVec.ofNat 32 (ro j)) hi h0 h1 h2 h3) hi

/-- The weights of a group whose every key is compared with the lanes' queries. -/
theorem wts0 (h : Rep st (dots xq xk ro he)) (hs : Rep scale (laneScale sc he)) (h0 : w0 = BitVec.ofNat 32 (ro 0)) (h1 : w1 = BitVec.ofNat 32 (ro 1))
    (h2 : w2 = BitVec.ofNat 32 (ro 2)) (h3 : w3 = BitVec.ofNat 32 (ro 3)) (hP : ∀ j, j < 4 → ro j + 32 ≤ n) (hn : n < 2 ^ 19)
    (hi1 : (⟨2, ![1, 128]⟩ : Shape).Iotas .tc 32 [1]) (hi : (⟨2, ![n, 128]⟩ : Shape).Iotas .tc 32 [0])
    (hb hb' hb'' : (⟨2, ![1, 128]⟩ : Shape).Broadcasts ⟨2, ![n, 128]⟩)
    (hr : (⟨2, ![n, 128]⟩ : Shape).Reduces [0] ⟨1, ![128]⟩) (hφ : FKind.Formats .f32)
    (hacc : (0xFF800000#32 : BitVec 32) = FKind.maximumf.neutral .f32 hφ) (hc : (⟨1, ![128]⟩ : Shape).ShapeCasts ⟨2, ![1, 128]⟩)
    {sm : (⟨2, ![n, 128]⟩ : Shape).Idx → EReal}
    (hsm : sm = select (cmpi .sle (addi (broadcast (⟨2, ![n, 128]⟩ : Shape) 0#32) (iota .tc (⟨2, ![n, 128]⟩ : Shape) 32 [0] hi))
      (broadcastTo (⟨2, ![n, 128]⟩ : Shape) (posWords hi1 w0 w1 w2 w3) hb)) (mulf (F := Ideal) (φ := .f32) st (broadcastTo (⟨2, ![n, 128]⟩ : Shape) scale hb''))
      (broadcast (⟨2, ![n, 128]⟩ : Shape) (FloatOps.ofBits (F := Ideal) .f32 0xFF800000#32))) :
    Rep (exp2 (F := Ideal) (φ := .f32) (subf (F := Ideal) (φ := .f32) sm (broadcastTo (⟨2, ![n, 128]⟩ : Shape)
      (shapeCast (⟨2, ![1, 128]⟩ : Shape) (multiReduction (F := Ideal) (φ := .f32) .maximumf [0] ⟨1, ![128]⟩ sm 0xFF800000#32 hr hφ hacc) hc) hb')))
      (wts sc xq xk ro he) := by
  subst hsm
  exact weights (s := fun l => scoreOf sc xq xk (he (l / 32)) (ro (l / 32) + l % 32)) (P := fun l => ro (l / 32) + l % 32)
    (mask0 (scaled h hs hb'') (posWords_rep hi1 h0 h1 h2 h3) (lanes hP) hn hi hb) (lanes hP) hr hφ hacc hc hb'

/-- The weights of a group whose first `f` keys every lane sees. -/
theorem wtsF (f : ℕ) {m : ℕ} (h : Rep st (dots xq xk ro he)) (hs : Rep scale (laneScale sc he)) (h0 : w0 = BitVec.ofNat 32 (ro 0)) (h1 : w1 = BitVec.ofNat 32 (ro 1))
    (h2 : w2 = BitVec.ofNat 32 (ro 2)) (h3 : w3 = BitVec.ofNat 32 (ro 3)) (hP : ∀ j, j < 4 → ro j + 32 ≤ n) (hf : ∀ j, j < 4 → f ≤ ro j)
    (hn : n < 2 ^ 19) (hm : m < 2 ^ 19)
    (hi1 : (⟨2, ![1, 128]⟩ : Shape).Iotas .tc 32 [1]) (hi : (⟨2, ![m, 128]⟩ : Shape).Iotas .tc 32 [0])
    (hb : (⟨2, ![1, 128]⟩ : Shape).Broadcasts ⟨2, ![m, 128]⟩) (hb' hb'' : (⟨2, ![1, 128]⟩ : Shape).Broadcasts ⟨2, ![n, 128]⟩)
    (hsf : (⟨2, ![n, 128]⟩ : Shape).Slices ![0, 0] ⟨2, ![f, 128]⟩) (hst : (⟨2, ![n, 128]⟩ : Shape).Slices ![f, 0] ⟨2, ![m, 128]⟩)
    (hcc : Shape.Concatenates [(⟨2, ![f, 128]⟩ : Shape), ⟨2, ![m, 128]⟩] ⟨2, ![n, 128]⟩ 0)
    (hr : (⟨2, ![n, 128]⟩ : Shape).Reduces [0] ⟨1, ![128]⟩) (hφ : FKind.Formats .f32)
    (hacc : (0xFF800000#32 : BitVec 32) = FKind.maximumf.neutral .f32 hφ) (hc : (⟨1, ![128]⟩ : Shape).ShapeCasts ⟨2, ![1, 128]⟩)
    {sm : (⟨2, ![n, 128]⟩ : Shape).Idx → EReal} {ss : (⟨2, ![n, 128]⟩ : Shape).Idx → EReal}
    (hss : ss = mulf (F := Ideal) (φ := .f32) st (broadcastTo (⟨2, ![n, 128]⟩ : Shape) scale hb''))
    (hsm : sm = concatenate (⟨2, ![n, 128]⟩ : Shape) 0 [⟨⟨2, ![f, 128]⟩, extractStridedSlice (⟨2, ![f, 128]⟩ : Shape) ![0, 0] ss hsf⟩,
      ⟨⟨2, ![m, 128]⟩, select (cmpi .sle (addi (broadcast (⟨2, ![m, 128]⟩ : Shape) (BitVec.ofNat 32 f)) (iota .tc (⟨2, ![m, 128]⟩ : Shape) 32 [0] hi))
        (broadcastTo (⟨2, ![m, 128]⟩ : Shape) (posWords hi1 w0 w1 w2 w3) hb)) (extractStridedSlice (⟨2, ![m, 128]⟩ : Shape) ![f, 0] ss hst)
        (broadcast (⟨2, ![m, 128]⟩ : Shape) (FloatOps.ofBits (F := Ideal) .f32 0xFF800000#32))⟩] hcc) :
    Rep (exp2 (F := Ideal) (φ := .f32) (subf (F := Ideal) (φ := .f32) sm (broadcastTo (⟨2, ![n, 128]⟩ : Shape)
      (shapeCast (⟨2, ![1, 128]⟩ : Shape) (multiReduction (F := Ideal) (φ := .f32) .maximumf [0] ⟨1, ![128]⟩ sm 0xFF800000#32 hr hφ hacc) hc) hb')))
      (wts sc xq xk ro he) := by
  subst hsm hss
  exact weights (s := fun l => scoreOf sc xq xk (he (l / 32)) (ro (l / 32) + l % 32)) (P := fun l => ro (l / 32) + l % 32)
    (maskF (scaled h hs hb'') (posWords_rep hi1 h0 h1 h2 h3) (lanes hP) (fun l hl => by have := hf (l / 32) (by omega); omega) hn hm hi hb hsf hst hcc)
    (lanes hP) hr hφ hacc hc hb'

end Weights

/-! ## A group's output rows -/

section Out
variable {N n : ℕ} {ro he : ℕ → ℕ} {vt : (⟨2, ![128, N]⟩ : Shape).Idx → EReal} {e : (⟨2, ![n, 128]⟩ : Shape).Idx → EReal}
  {eN p : (⟨2, ![N, 128]⟩ : Shape).Idx → EReal}

/-- The output rows of a group that fills its tile's right half. -/
theorem outR (hv : Rep vt (fun a b => xv b a)) (hw : Rep eN (wts sc xq xk ro he)) (hP : ∀ j, j < 4 → ro j + 32 ≤ N)
    {d : DotDims (⟨2, ![128, N]⟩ : Shape) ⟨2, ![N, 256]⟩ ⟨2, ![128, 256]⟩} (hd : d = DotDims.plain 128 N 256)
    (prec : Option ContractPrecision) (hc : Shape.Concatenates [(⟨2, ![N, 128]⟩ : Shape), ⟨2, ![N, 128]⟩] ⟨2, ![N, 256]⟩ 1)
    (hs : (⟨2, ![128, 256]⟩ : Shape).Slices ![0, 128] ⟨2, ![128, 128]⟩)
    (hr : (⟨2, ![N, 128]⟩ : Shape).Reduces [0] ⟨1, ![128]⟩) (hφ : FKind.Formats .f32)
    (hacc : (0#32 : BitVec 32) = FKind.add.neutral .f32 hφ) (hsc : (⟨1, ![128]⟩ : Shape).ShapeCasts ⟨2, ![1, 128]⟩)
    (hb : (⟨2, ![1, 128]⟩ : Shape).Broadcasts ⟨2, ![128, 128]⟩) (htr : (⟨2, ![128, 128]⟩ : Shape).Transposes [1, 0] ⟨2, ![128, 128]⟩)
    (ht ht' : FTy.bits .bf16 < FTy.bits .f32) :
    Rep (truncf (F := Ideal) (φ := .f32) .bf16 (transpose (⟨2, ![128, 128]⟩ : Shape) [1, 0]
      (mulf (F := Ideal) (φ := .f32)
        (extractStridedSlice (⟨2, ![128, 128]⟩ : Shape) ![0, 128] (matmul (F := Ideal) (φ₁ := .bf16) (φ₂ := .bf16) d prec vt
          (concatenate (⟨2, ![N, 256]⟩ : Shape) 1 [⟨⟨2, ![N, 128]⟩, p⟩, ⟨⟨2, ![N, 128]⟩, truncf (F := Ideal) (φ := .f32) .bf16 eN ht'⟩] hc)
          (constant ⟨2, ![128, 256]⟩ .f32 0#32)) hs)
        (broadcastTo (⟨2, ![128, 128]⟩ : Shape) (divf (F := Ideal) (φ := .f32) (broadcast (⟨2, ![1, 128]⟩ : Shape) vs)
          (shapeCast (⟨2, ![1, 128]⟩ : Shape) (multiReduction (F := Ideal) (φ := .f32) .add [0] ⟨1, ![128]⟩ eN 0#32 hr hφ hacc) hsc)) hb)) htr) ht)
      (attRows sc xq xk xv vs ro he) :=
  outOfProduct (v := fun d k => xv k d) (s := fun l => scoreOf sc xq xk (he (l / 32)) (ro (l / 32) + l % 32)) (P := fun l => ro (l / 32) + l % 32)
    (productR hv (hw.truncf (φ := .f32) ht') hc hd prec hs)
    (invRow (s := fun l => scoreOf sc xq xk (he (l / 32)) (ro (l / 32) + l % 32)) (P := fun l => ro (l / 32) + l % 32) hw (lanes hP) hr hφ hacc hsc) (lanes hP) hb htr ht

/-- The output rows of a group that fills its tile's left half. -/
theorem outL (hv : Rep vt (fun a b => xv b a)) (hw : Rep eN (wts sc xq xk ro he)) (hP : ∀ j, j < 4 → ro j + 32 ≤ N)
    {d : DotDims (⟨2, ![128, N]⟩ : Shape) ⟨2, ![N, 256]⟩ ⟨2, ![128, 256]⟩} (hd : d = DotDims.plain 128 N 256)
    (prec : Option ContractPrecision) (hc : Shape.Concatenates [(⟨2, ![N, 128]⟩ : Shape), ⟨2, ![N, 128]⟩] ⟨2, ![N, 256]⟩ 1)
    (hs : (⟨2, ![128, 256]⟩ : Shape).Slices ![0, 0] ⟨2, ![128, 128]⟩)
    (hr : (⟨2, ![N, 128]⟩ : Shape).Reduces [0] ⟨1, ![128]⟩) (hφ : FKind.Formats .f32)
    (hacc : (0#32 : BitVec 32) = FKind.add.neutral .f32 hφ) (hsc : (⟨1, ![128]⟩ : Shape).ShapeCasts ⟨2, ![1, 128]⟩)
    (hb : (⟨2, ![1, 128]⟩ : Shape).Broadcasts ⟨2, ![128, 128]⟩) (htr : (⟨2, ![128, 128]⟩ : Shape).Transposes [1, 0] ⟨2, ![128, 128]⟩)
    (ht ht' : FTy.bits .bf16 < FTy.bits .f32) :
    Rep (truncf (F := Ideal) (φ := .f32) .bf16 (transpose (⟨2, ![128, 128]⟩ : Shape) [1, 0]
      (mulf (F := Ideal) (φ := .f32)
        (extractStridedSlice (⟨2, ![128, 128]⟩ : Shape) ![0, 0] (matmul (F := Ideal) (φ₁ := .bf16) (φ₂ := .bf16) d prec vt
          (concatenate (⟨2, ![N, 256]⟩ : Shape) 1 [⟨⟨2, ![N, 128]⟩, truncf (F := Ideal) (φ := .f32) .bf16 eN ht'⟩, ⟨⟨2, ![N, 128]⟩, p⟩] hc)
          (constant ⟨2, ![128, 256]⟩ .f32 0#32)) hs)
        (broadcastTo (⟨2, ![128, 128]⟩ : Shape) (divf (F := Ideal) (φ := .f32) (broadcast (⟨2, ![1, 128]⟩ : Shape) vs)
          (shapeCast (⟨2, ![1, 128]⟩ : Shape) (multiReduction (F := Ideal) (φ := .f32) .add [0] ⟨1, ![128]⟩ eN 0#32 hr hφ hacc) hsc)) hb)) htr) ht)
      (attRows sc xq xk xv vs ro he) :=
  outOfProduct (v := fun d k => xv k d) (s := fun l => scoreOf sc xq xk (he (l / 32)) (ro (l / 32) + l % 32)) (P := fun l => ro (l / 32) + l % 32)
    (productL hv (hw.truncf (φ := .f32) ht') hc hd prec hs)
    (invRow (s := fun l => scoreOf sc xq xk (he (l / 32)) (ro (l / 32) + l % 32)) (P := fun l => ro (l / 32) + l % 32) hw (lanes hP) hr hφ hacc hsc) (lanes hP) hb htr ht

/-- The output rows of a left group with fewer keys than its tile: zero rows fill its weights. -/
theorem outLpad {m : ℕ} (hv : Rep vt (fun a b => xv b a)) (hw : Rep e (wts sc xq xk ro he)) (hP : ∀ j, j < 4 → ro j + 32 ≤ n) (hn : n ≤ N)
    {d : DotDims (⟨2, ![128, N]⟩ : Shape) ⟨2, ![N, 256]⟩ ⟨2, ![128, 256]⟩} (hd : d = DotDims.plain 128 N 256)
    (prec : Option ContractPrecision) (hc : Shape.Concatenates [(⟨2, ![N, 128]⟩ : Shape), ⟨2, ![N, 128]⟩] ⟨2, ![N, 256]⟩ 1)
    (hcp : Shape.Concatenates [(⟨2, ![n, 128]⟩ : Shape), ⟨2, ![m, 128]⟩] ⟨2, ![N, 128]⟩ 0)
    (hs : (⟨2, ![128, 256]⟩ : Shape).Slices ![0, 0] ⟨2, ![128, 128]⟩)
    (hr : (⟨2, ![n, 128]⟩ : Shape).Reduces [0] ⟨1, ![128]⟩) (hφ : FKind.Formats .f32)
    (hacc : (0#32 : BitVec 32) = FKind.add.neutral .f32 hφ) (hsc : (⟨1, ![128]⟩ : Shape).ShapeCasts ⟨2, ![1, 128]⟩)
    (hb : (⟨2, ![1, 128]⟩ : Shape).Broadcasts ⟨2, ![128, 128]⟩) (htr : (⟨2, ![128, 128]⟩ : Shape).Transposes [1, 0] ⟨2, ![128, 128]⟩)
    (ht ht' : FTy.bits .bf16 < FTy.bits .f32) :
    Rep (truncf (F := Ideal) (φ := .f32) .bf16 (transpose (⟨2, ![128, 128]⟩ : Shape) [1, 0]
      (mulf (F := Ideal) (φ := .f32)
        (extractStridedSlice (⟨2, ![128, 128]⟩ : Shape) ![0, 0] (matmul (F := Ideal) (φ₁ := .bf16) (φ₂ := .bf16) d prec vt
          (concatenate (⟨2, ![N, 256]⟩ : Shape) 1 [⟨⟨2, ![N, 128]⟩, concatenate (⟨2, ![N, 128]⟩ : Shape) 0
            [⟨⟨2, ![n, 128]⟩, truncf (F := Ideal) (φ := .f32) .bf16 e ht'⟩,
             ⟨⟨2, ![m, 128]⟩, broadcast (⟨2, ![m, 128]⟩ : Shape) (FloatOps.ofBits (F := Ideal) .bf16 0#16)⟩] hcp⟩, ⟨⟨2, ![N, 128]⟩, p⟩] hc)
          (constant ⟨2, ![128, 256]⟩ .f32 0#32)) hs)
        (broadcastTo (⟨2, ![128, 128]⟩ : Shape) (divf (F := Ideal) (φ := .f32) (broadcast (⟨2, ![1, 128]⟩ : Shape) vs)
          (shapeCast (⟨2, ![1, 128]⟩ : Shape) (multiReduction (F := Ideal) (φ := .f32) .add [0] ⟨1, ![128]⟩ e 0#32 hr hφ hacc) hsc)) hb)) htr) ht)
      (attRows sc xq xk xv vs ro he) :=
  outOfProduct (v := fun d k => xv k d) (s := fun l => scoreOf sc xq xk (he (l / 32)) (ro (l / 32) + l % 32)) (P := fun l => ro (l / 32) + l % 32)
    (productL hv (padded (s := fun l => scoreOf sc xq xk (he (l / 32)) (ro (l / 32) + l % 32)) (P := fun l => ro (l / 32) + l % 32) hw (lanes hP) ht' hcp) hc hd prec hs)
    (invRow (s := fun l => scoreOf sc xq xk (he (l / 32)) (ro (l / 32) + l % 32)) (P := fun l => ro (l / 32) + l % 32) hw (lanes hP) hr hφ hacc hsc)
    (fun l hl => lt_of_lt_of_le (lanes hP l hl) hn) hb htr ht

/-- The output rows of a group that is a tile of its own. -/
theorem outOne (hv : Rep vt (fun a b => xv b a)) (hw : Rep eN (wts sc xq xk ro he)) (hP : ∀ j, j < 4 → ro j + 32 ≤ N)
    {d : DotDims (⟨2, ![128, N]⟩ : Shape) ⟨2, ![N, 128]⟩ ⟨2, ![128, 128]⟩} (hd : d = DotDims.plain 128 N 128)
    (prec : Option ContractPrecision)
    (hr : (⟨2, ![N, 128]⟩ : Shape).Reduces [0] ⟨1, ![128]⟩) (hφ : FKind.Formats .f32)
    (hacc : (0#32 : BitVec 32) = FKind.add.neutral .f32 hφ) (hsc : (⟨1, ![128]⟩ : Shape).ShapeCasts ⟨2, ![1, 128]⟩)
    (hb : (⟨2, ![1, 128]⟩ : Shape).Broadcasts ⟨2, ![128, 128]⟩) (htr : (⟨2, ![128, 128]⟩ : Shape).Transposes [1, 0] ⟨2, ![128, 128]⟩)
    (ht ht' : FTy.bits .bf16 < FTy.bits .f32) :
    Rep (truncf (F := Ideal) (φ := .f32) .bf16 (transpose (⟨2, ![128, 128]⟩ : Shape) [1, 0]
      (mulf (F := Ideal) (φ := .f32)
        (matmul (F := Ideal) (φ₁ := .bf16) (φ₂ := .bf16) d prec vt (truncf (F := Ideal) (φ := .f32) .bf16 eN ht') (constant ⟨2, ![128, 128]⟩ .f32 0#32))
        (broadcastTo (⟨2, ![128, 128]⟩ : Shape) (divf (F := Ideal) (φ := .f32) (broadcast (⟨2, ![1, 128]⟩ : Shape) vs)
          (shapeCast (⟨2, ![1, 128]⟩ : Shape) (multiReduction (F := Ideal) (φ := .f32) .add [0] ⟨1, ![128]⟩ eN 0#32 hr hφ hacc) hsc)) hb)) htr) ht)
      (attRows sc xq xk xv vs ro he) :=
  outOfProduct (v := fun d k => xv k d) (s := fun l => scoreOf sc xq xk (he (l / 32)) (ro (l / 32) + l % 32)) (P := fun l => ro (l / 32) + l % 32)
    (hv.matmulPlain (φ₁ := .bf16) (φ₂ := .bf16) (hw.truncf (φ := .f32) ht') hd prec)
    (invRow (s := fun l => scoreOf sc xq xk (he (l / 32)) (ro (l / 32) + l % 32)) (P := fun l => ro (l / 32) + l % 32) hw (lanes hP) hr hφ hacc hsc) (lanes hP) hb htr ht

end Out

/-! ## Stores -/

/-- The store of one piece of a group's output rows: its entries are the output block's. -/
theorem storePiece {out : (⟨2, ![128, 128]⟩ : Shape).Idx → EReal} {ro he : ℕ → ℕ}
    (h : Rep out (attRows sc xq xk xv vs ro he)) (j : ℕ) (hj : j < 4) {o1 : ℕ} (ho : o1 = 32 * j)
    (hs : (⟨2, ![128, 128]⟩ : Shape).Slices ![o1, 0] ⟨2, ![32, 128]⟩) (hc : (⟨2, ![32, 128]⟩ : Shape).ShapeCasts ⟨3, ![1, 32, 128]⟩)
    (inb : ∀ a, (![0, ro j, 128 * he j] : Fin 3 → ℕ) a + (![1, 32, 128] : Fin 3 → ℕ) a ≤ S1x640x640.size a)
    (x : (⟨3, ![1, 32, 128]⟩ : Shape).Idx) :
    shapeCast (⟨3, ![1, 32, 128]⟩ : Shape) (extractStridedSlice (⟨2, ![32, 128]⟩ : Shape) ![o1, 0] out hs) hc x
      = blockOf sc xq xk xv vs ((Rect.unit (s := S1x640x640) ![0, ro j, 128 * he j] ![1, 32, 128] inb).emb x) := by
  subst ho
  refine (shapeCast_addUnit_apply ![32, 128] _ hc x).trans ((h.slice (32 * j) 0 hs _).trans ?_)
  have h1 : (x 1).val < 32 := (x 1).isLt
  have h2 : (x 2).val < 128 := (x 2).isLt
  have e1 : ((Rect.unit (s := S1x640x640) ![0, ro j, 128 * he j] ![1, 32, 128] inb).emb x 1).val = ro j + (x 1).val :=
    congrArg (ro j + ·) (Nat.one_mul _)
  have e2 : ((Rect.unit (s := S1x640x640) ![0, ro j, 128 * he j] ![1, 32, 128] inb).emb x 2).val = 128 * he j + (x 2).val :=
    congrArg (128 * he j + ·) (Nat.one_mul _)
  unfold blockOf
  rw [e1, e2]
  change attOf sc xq xk xv vs (he ((32 * j + (x 1).val) / 32)) (ro ((32 * j + (x 1).val) / 32) + (32 * j + (x 1).val) % 32) (0 + (x 2).val) = _
  rw [show (32 * j + (x 1).val) / 32 = j by omega, show (32 * j + (x 1).val) % 32 = (x 1).val by omega,
    show (128 * he j + (x 2).val) / 128 = he j by omega, show (128 * he j + (x 2).val) % 128 = (x 2).val by omega, Nat.zero_add]

/-- The proposition of `storePiece`, at literal offsets. -/
abbrev Stored (sc : ℕ → EReal) (xq xk xv : ℕ → ℕ → EReal) (vs : EReal) (out : (⟨2, ![128, 128]⟩ : Shape).Idx → EReal) (o1 o2 o3 : ℕ)
    (hs : (⟨2, ![128, 128]⟩ : Shape).Slices ![o1, 0] ⟨2, ![32, 128]⟩) (hc : (⟨2, ![32, 128]⟩ : Shape).ShapeCasts ⟨3, ![1, 32, 128]⟩)
    (inb : ∀ a, (![0, o2, o3] : Fin 3 → ℕ) a + (![1, 32, 128] : Fin 3 → ℕ) a ≤ S1x640x640.size a) : Prop :=
  ∀ x : (⟨3, ![1, 32, 128]⟩ : Shape).Idx,
    shapeCast (⟨3, ![1, 32, 128]⟩ : Shape) (extractStridedSlice (⟨2, ![32, 128]⟩ : Shape) ![o1, 0] out hs) hc x
      = blockOf sc xq xk xv vs ((Rect.unit (s := S1x640x640) ![0, o2, o3] ![1, 32, 128] inb).emb x)

/-- The four stores of one group, the last first, before the propositions `R` of the earlier stores. -/
theorem storeGroup (ro he : ℕ → ℕ) {out : (⟨2, ![128, 128]⟩ : Shape).Idx → EReal} {R : Prop}
    {hs0 : (⟨2, ![128, 128]⟩ : Shape).Slices ![0, 0] ⟨2, ![32, 128]⟩} {hs1 : (⟨2, ![128, 128]⟩ : Shape).Slices ![32, 0] ⟨2, ![32, 128]⟩}
    {hs2 : (⟨2, ![128, 128]⟩ : Shape).Slices ![64, 0] ⟨2, ![32, 128]⟩} {hs3 : (⟨2, ![128, 128]⟩ : Shape).Slices ![96, 0] ⟨2, ![32, 128]⟩}
    {hc : (⟨2, ![32, 128]⟩ : Shape).ShapeCasts ⟨3, ![1, 32, 128]⟩}
    {inb0 : ∀ a, (![0, ro 0, 128 * he 0] : Fin 3 → ℕ) a + (![1, 32, 128] : Fin 3 → ℕ) a ≤ S1x640x640.size a}
    {inb1 : ∀ a, (![0, ro 1, 128 * he 1] : Fin 3 → ℕ) a + (![1, 32, 128] : Fin 3 → ℕ) a ≤ S1x640x640.size a}
    {inb2 : ∀ a, (![0, ro 2, 128 * he 2] : Fin 3 → ℕ) a + (![1, 32, 128] : Fin 3 → ℕ) a ≤ S1x640x640.size a}
    {inb3 : ∀ a, (![0, ro 3, 128 * he 3] : Fin 3 → ℕ) a + (![1, 32, 128] : Fin 3 → ℕ) a ≤ S1x640x640.size a}
    (h : Rep out (attRows sc xq xk xv vs ro he)) (hR : R) :
    Stored sc xq xk xv vs out 96 (ro 3) (128 * he 3) hs3 hc inb3 ∧ Stored sc xq xk xv vs out 64 (ro 2) (128 * he 2) hs2 hc inb2 ∧
      Stored sc xq xk xv vs out 32 (ro 1) (128 * he 1) hs1 hc inb1 ∧ Stored sc xq xk xv vs out 0 (ro 0) (128 * he 0) hs0 hc inb0 ∧ R :=
  ⟨storePiece h 3 (by omega) rfl hs3 hc inb3, storePiece h 2 (by omega) rfl hs2 hc inb2, storePiece h 1 (by omega) rfl hs1 hc inb1,
    storePiece h 0 (by omega) rfl hs0 hc inb0, hR⟩

end Cert.Attn
-- ==== Proof.Attn.Scale.lean ====
/-
  The scales, keys and values that every query tile uses.
-/
module

public import proofs.«01_k».proof.Proof.Attn.Tile

@[expose] public section

set_option maxRecDepth 65536

noncomputable section

namespace Cert.Attn

open Idealize.ShloMosaic Cert.KernelIdeal Cert.KernelIdeal.Gen
open scoped BigOperators

section
variable (c : Dev nD) (i : grid0.Coords) (arg2 : Memref sig .tc .smem S40 .f32) (harg2 : arg2.IsWhole) (arg3 : Memref sig .tc .smem S8 .f32) (harg3 : arg3.IsWhole) (arg4 : Memref sig .tc .smem S8 .f32) (harg4 : arg4.IsWhole) (arg5 : Memref sig .tc .vmem S1x640x640 .fp8e4m3) (harg5 : arg5.IsWhole) (arg6 : Memref sig .tc .vmem S1x640x128 .fp8e4m3) (harg6 : arg6.IsWhole) (arg7 : Memref sig .tc .vmem S1x640x128 .fp8e4m3) (harg7 : arg7.IsWhole) (arg8 : Memref sig .tc .vmem S1x640x640 .bf16) (harg8 : arg8.IsWhole) (arg9 : Memref sig .tc .vmem S128x640 .bf16) (harg9 : arg9.IsWhole)
    (x0 : Vec Ideal S40 .f32) (x1 : Vec Ideal S8 .f32) (x2 : Vec Ideal S8 .f32) (x3 : Vec Ideal S1x640x640 .fp8e4m3) (x4 : Vec Ideal S1x640x128 .fp8e4m3) (x5 : Vec Ideal S1x640x128 .fp8e4m3)

/-- The scale of a head's scores, from the block's scales: `g` is the grid's second coordinate. -/
def headScale (x0 : S40.Idx → EReal) (x1 : S8.Idx → EReal) (g h : ℕ) : EReal :=
  val1 (N := 40) x0 (5 * g + h) * val1 (N := 8) x1 g * Ideal.ofBits .f32 0x3DB504F3#32 * (((Real.log 2)⁻¹ : ℝ) : EReal)

/-- The kernel's output block at grid point `(·, g)` from its input blocks. -/
def kernelBlock (g : ℕ) : S1x640x640.Idx → EReal :=
  blockOf (headScale x0 x1 g) (val3 (N := 640) (M := 640) x3) (val3 (N := 640) (M := 128) x4) (val3 (N := 640) (M := 128) x5)
    (val1 (N := 8) x2 g)

theorem off1_eq (h : Fin 5) : (k0_off1 i (BitVec.ofNat 32 h.val)) 0 = 5 * (i 1).val + h.val := by
  have key : ∀ (g : Fin 8) (h : Fin 5), (Scalar.indexCast (Scalar.addi (Scalar.muli (BitVec.ofNat 32 g.val) 5#32) (BitVec.ofNat 32 h.val))).toNat = 5 * g.val + h.val := by
    decide
  exact key (i 1) h

theorem off2_eq : (k0_off2 i) 0 = (i 1).val := by
  have key : ∀ g : Fin 8, (Scalar.indexCast (BitVec.ofNat 32 g.val)).toNat = g.val := by decide
  exact key (i 1)

/-- One word of a one-axis array. -/
theorem loadWord {N : ℕ} {arg : Memref sig .tc .smem (⟨1, ![N]⟩ : Shape) .f32} (harg : arg.IsWhole) (x : Vec Ideal (⟨1, ![N]⟩ : Shape) .f32)
    (o : Fin 1 → ℕ) (a : ℕ) (ho : o 0 = a) (inb : ∀ a, o a + S1.size a ≤ (⟨1, ![N]⟩ : Shape).size a)
    (y : (Rect.unit (s := (⟨1, ![N]⟩ : Shape)) o S1.size inb).toLoadRect.shape.Idx) :
    View.readAt (Elt Ideal) arg.view (Rect.unit (s := (⟨1, ![N]⟩ : Shape)) o S1.size inb).toLoadRect (harg.unread x) y = val1 (N := N) x a := by
  refine (harg.readAt_unread x _ _).trans (val1_eq x _ _ ?_)
  have hy : (y 0).val < 1 := (y 0).isLt
  change o 0 + 1 * (y 0).val = a
  omega

/-- The value scale of the block. -/
theorem valueScale : kernelRun0_A.sl.r_9 (F := Ideal) c i arg4 harg4 x2 = val1 (N := 8) x2 (i 1).val :=
  loadWord harg4 x2 _ _ (off2_eq i) _ _

theorem keyScale : kernelRun0_A.sl.r_1 (F := Ideal) c i arg3 harg3 x1 = val1 (N := 8) x1 (i 1).val :=
  loadWord harg3 x1 _ _ (off2_eq i) _ _

/-- The scalar product that gives a head's scale. -/
theorem pay_eq (q k : EReal) (h : ℕ) (hq : q = val1 (N := 40) x0 (5 * (i 1).val + h)) (hk : k = val1 (N := 8) x1 (i 1).val) :
    q * k * Ideal.ofBits .f32 0x3DB504F3#32 * Named.named (F := Ideal) (φ := .f32) κ "log2_e" 0x3FB8AA3B#32 = headScale x0 x1 (i 1).val h := by
  rw [IdealRules.named_const.ideal_named_scalar κ "log2_e" _ (((Real.log 2)⁻¹ : ℝ) : EReal) rfl, hq, hk]
  rfl

theorem scale0 : kernelRun0_A.sl.r_4 (F := Ideal) c i arg2 harg2 arg3 harg3 x0 x1 = headScale x0 x1 (i 1).val 0 :=
  pay_eq i x0 x1 _ _ 0 (loadWord harg2 x0 _ _ (off1_eq i 0) _ _) (keyScale c i arg3 harg3 x1)
theorem scale1 : kernelRun0_A.sl.r_5 (F := Ideal) c i arg2 harg2 arg3 harg3 x0 x1 = headScale x0 x1 (i 1).val 1 :=
  pay_eq i x0 x1 _ _ 1 (loadWord harg2 x0 _ _ (off1_eq i 1) _ _) (keyScale c i arg3 harg3 x1)
theorem scale2 : kernelRun0_A.sl.r_6 (F := Ideal) c i arg2 harg2 arg3 harg3 x0 x1 = headScale x0 x1 (i 1).val 2 :=
  pay_eq i x0 x1 _ _ 2 (loadWord harg2 x0 _ _ (off1_eq i 2) _ _) (keyScale c i arg3 harg3 x1)
theorem scale3 : kernelRun0_A.sl.r_10 (F := Ideal) c i arg2 harg2 arg3 harg3 x0 x1 = headScale x0 x1 (i 1).val 3 :=
  pay_eq i x0 x1 _ _ 3 (loadWord harg2 x0 _ _ (off1_eq i 3) _ _) (keyScale c i arg3 harg3 x1)
theorem scale4 : kernelRun0_A.sl.r_11 (F := Ideal) c i arg2 harg2 arg3 harg3 x0 x1 = headScale x0 x1 (i 1).val 4 :=
  pay_eq i x0 x1 _ _ 4 (loadWord harg2 x0 _ _ (off1_eq i 4) _ _) (keyScale c i arg3 harg3 x1)

/-- The lanes' scales of a group whose lanes are the first four heads. -/
theorem scaleC : Rep (N := 1) (M := 128) (kernelRun0_A.sl.v89 (F := Ideal) c i arg2 harg2 arg3 harg3 x0 x1) (laneScale (headScale x0 x1 (i 1).val) fun j => j) :=
  rowSel (g := headScale x0 x1 (i 1).val) _ (scale0 c i arg2 harg2 arg3 harg3 x0 x1) (scale1 c i arg2 harg2 arg3 harg3 x0 x1)
    (scale2 c i arg2 harg2 arg3 harg3 x0 x1) (scale3 c i arg2 harg2 arg3 harg3 x0 x1)

/-- The lanes' scales of a group whose lanes are all the fifth head. -/
theorem scaleH : Rep (N := 1) (M := 128) (kernelRun0_A.sl.v426 (F := Ideal) c i arg2 harg2 arg3 harg3 x0 x1) (laneScale (headScale x0 x1 (i 1).val) fun _ => 4) :=
  rowSel (g := fun _ => headScale x0 x1 (i 1).val 4) _ (scale4 c i arg2 harg2 arg3 harg3 x0 x1) (scale4 c i arg2 harg2 arg3 harg3 x0 x1)
    (scale4 c i arg2 harg2 arg3 harg3 x0 x1) (scale4 c i arg2 harg2 arg3 harg3 x0 x1)

/-- The keys of the block. -/
theorem keys : Rep (N := 640) (M := 128) (kernelRun0_A.sl.r_12 (F := Ideal) c arg6 harg6 x4) (val3 (N := 640) (M := 128) x4) :=
  (loadPiece harg6 x4 _ _).congr fun a b _ _ => by rw [Nat.zero_add, Nat.zero_add]

end

end Cert.Attn
-- ==== Proof.Attn.Block.lean ====
/-
  The stores of the kernel's body are pieces of one block: `blockOf`.
-/
module

public import proofs.«01_k».proof.Proof.Attn.Scale

@[expose] public section

set_option maxRecDepth 65536

noncomputable section

namespace Cert.Attn

open Idealize.ShloMosaic Cert.KernelIdeal Cert.KernelIdeal.Gen
open scoped BigOperators

section
variable (c : Dev nD) (i : grid0.Coords) (arg2 : Memref sig .tc .smem S40 .f32) (harg2 : arg2.IsWhole) (arg3 : Memref sig .tc .smem S8 .f32) (harg3 : arg3.IsWhole) (arg4 : Memref sig .tc .smem S8 .f32) (harg4 : arg4.IsWhole) (arg5 : Memref sig .tc .vmem S1x640x640 .fp8e4m3) (harg5 : arg5.IsWhole) (arg6 : Memref sig .tc .vmem S1x640x128 .fp8e4m3) (harg6 : arg6.IsWhole) (arg7 : Memref sig .tc .vmem S1x640x128 .fp8e4m3) (harg7 : arg7.IsWhole) (arg8 : Memref sig .tc .vmem S1x640x640 .bf16) (harg8 : arg8.IsWhole) (arg9 : Memref sig .tc .vmem S128x640 .bf16) (harg9 : arg9.IsWhole)
    (x0 : Vec Ideal S40 .f32) (x1 : Vec Ideal S8 .f32) (x2 : Vec Ideal S8 .f32) (x3 : Vec Ideal S1x640x640 .fp8e4m3) (x4 : Vec Ideal S1x640x128 .fp8e4m3) (x5 : Vec Ideal S1x640x128 .fp8e4m3)

set_option maxHeartbeats 8000000 in
/-- Every store that the body makes at grid point `i` writes its piece of `kernelBlock`. -/
theorem stores : ∀ p ∈ (kernelRun0_A c i arg2 harg2 arg3 harg3 arg4 harg4 arg5 harg5 arg6 harg6 arg7 harg7 arg8 harg8 arg9 harg9 x0 x1 x2 x3 x4 x5).1,
    ∀ x : p.1.shape.Idx, p.2 x = kernelBlock x0 x1 x2 x3 x4 x5 (i 1).val (p.1.emb x) := by
  unfold kernelRun0_A kernelBlock
  rw [← valueScale c i arg4 harg4 x2]
  dsimp only
  simp only [List.forall_mem_cons]
  have hC := scaleC c i arg2 harg2 arg3 harg3 x0 x1
  have hH := scaleH c i arg2 harg2 arg3 harg3 x0 x1
  have hK := keys c arg6 harg6 x4
  refine storeGroup (fun j => 512 + 32 * j) (fun _ => 4) ?H4 <|
    storeGroup (fun _ => 608) (fun j => j) ?c19 <|
    storeGroup (fun _ => 576) (fun j => j) ?c18 <|
    storeGroup (fun _ => 544) (fun j => j) ?c17 <|
    storeGroup (fun _ => 512) (fun j => j) ?c16 <|
    storeGroup (fun j => 384 + 32 * j) (fun _ => 4) ?H3 <|
    storeGroup (fun _ => 480) (fun j => j) ?c15 <|
    storeGroup (fun _ => 448) (fun j => j) ?c14 <|
    storeGroup (fun _ => 416) (fun j => j) ?c13 <|
    storeGroup (fun _ => 384) (fun j => j) ?c12 <|
    storeGroup (fun j => 256 + 32 * j) (fun _ => 4) ?H2 <|
    storeGroup (fun _ => 352) (fun j => j) ?c11 <|
    storeGroup (fun _ => 320) (fun j => j) ?c10 <|
    storeGroup (fun _ => 288) (fun j => j) ?c9 <|
    storeGroup (fun _ => 256) (fun j => j) ?c8 <|
    storeGroup (fun j => 128 + 32 * j) (fun _ => 4) ?H1 <|
    storeGroup (fun _ => 224) (fun j => j) ?c7 <|
    storeGroup (fun _ => 192) (fun j => j) ?c6 <|
    storeGroup (fun _ => 160) (fun j => j) ?c5 <|
    storeGroup (fun _ => 128) (fun j => j) ?c4 <|
    storeGroup (fun j => 0 + 32 * j) (fun _ => 4) ?H0 <|
    storeGroup (fun _ => 96) (fun j => j) ?c3 <|
    storeGroup (fun _ => 64) (fun j => j) ?c2 <|
    storeGroup (fun _ => 32) (fun j => j) ?c1 <|
    storeGroup (fun _ => 0) (fun j => j) ?c0 fun _ h => absurd h List.not_mem_nil
  case H4 =>
    refine outOne (loadValues harg7 arg9 x5 _ _ _) ?_ (by decide) rfl _ _ _ _ _ _ _ _ _
    refine wtsF _ ?_ ?_ rfl rfl rfl rfl (by decide) (by decide) (by norm_num) (by norm_num) _ _ _ _ _ _ _ _ _ _ _ _ rfl rfl
    refine scoresOne ?_ ?_ ?_ ?_ ?_ _ rfl _
    all_goals first | exact hC | exact hH | exact hK | exact hK.top _ | exact loadPiece harg5 x3 _ _
  case c1 | c3 | c4 | c6 | H1 | c9 | c11 | c12 | c14 | H3 | c17 | c19 =>
    refine outR (loadValues harg7 arg9 x5 _ _ _) ?_ (by decide) rfl _ _ _ _ _ _ _ _ _ _ _
    refine wtsF _ ?_ ?_ rfl rfl rfl rfl (by decide) (by decide) (by norm_num) (by norm_num) _ _ _ _ _ _ _ _ _ _ _ _ rfl rfl
    refine scoresR ?_ ?_ ?_ ?_ ?_ _ rfl _ _
    all_goals first | exact hC | exact hH | exact hK | exact hK.top _ | exact loadPiece harg5 x3 _ _
  case c7 | c15 =>
    refine outL (loadValues harg7 arg9 x5 _ _ _) ?_ (by decide) rfl _ _ _ _ _ _ _ _ _ _ _
    refine wtsF _ ?_ ?_ rfl rfl rfl rfl (by decide) (by decide) (by norm_num) (by norm_num) _ _ _ _ _ _ _ _ _ _ _ _ rfl rfl
    refine scoresL ?_ ?_ ?_ ?_ ?_ _ rfl _ _
    all_goals first | exact hC | exact hH | exact hK | exact hK.top _ | exact loadPiece harg5 x3 _ _
  case c2 | c5 | c8 | c10 | H2 | c13 | c16 | c18 =>
    refine outLpad (loadValues harg7 arg9 x5 _ _ _) ?_ (by decide) (by norm_num) rfl _ _ _ _ _ _ _ _ _ _ _ _
    refine wtsF _ ?_ ?_ rfl rfl rfl rfl (by decide) (by decide) (by norm_num) (by norm_num) _ _ _ _ _ _ _ _ _ _ _ _ rfl rfl
    refine scoresL ?_ ?_ ?_ ?_ ?_ _ rfl _ _
    all_goals first | exact hC | exact hH | exact hK | exact hK.top _ | exact loadPiece harg5 x3 _ _
  case c0 | H0 =>
    refine outLpad (loadValues harg7 arg9 x5 _ _ _) ?_ (by decide) (by norm_num) rfl _ _ _ _ _ _ _ _ _ _ _ _
    refine wts0 ?_ ?_ rfl rfl rfl rfl (by decide) (by norm_num) _ _ _ _ _ _ _ _ _ rfl
    refine scoresL ?_ ?_ ?_ ?_ ?_ _ rfl _ _
    all_goals first | exact hC | exact hH | exact hK | exact hK.top _ | exact loadPiece harg5 x3 _ _

end

end Cert.Attn
-- ==== Proof.Attn.Kernel.lean ====
/-
  The kernel's result array after the run: each grid point leaves its block, and the blocks tile the array.
-/
module

public import proofs.«01_k».proof.Proof.Attn.Block
public import proofs.«01_k».proof.Proof.Gen.KernelIdeal.Value
public import Idealize.ShloMosaic.Lib.Pipeline.ValueKit

@[expose] public section

set_option maxRecDepth 65536

noncomputable section

namespace Cert.Attn

open Idealize.ShloMosaic Idealize.ShloMosaic.TcCoe

/-- A three-axis array as a function of three natural numbers (zero outside). -/
def whole3 {B N M : ℕ} (x : (⟨3, ![B, N, M]⟩ : Shape).Idx → EReal) (b a c : ℕ) : EReal :=
  if h : b < B ∧ a < N ∧ c < M then x (ix3 ⟨b, h.1⟩ ⟨a, h.2.1⟩ ⟨c, h.2.2⟩) else 0

theorem whole3_eq {B N M : ℕ} (x : (⟨3, ![B, N, M]⟩ : Shape).Idx → EReal) (y : (⟨3, ![B, N, M]⟩ : Shape).Idx) (b a c : ℕ)
    (hb : (y 0).val = b) (ha : (y 1).val = a) (hc : (y 2).val = c) : x y = whole3 x b a c := by
  subst hb ha hc
  have h0 : (y 0).val < B := (y 0).isLt
  have h1 : (y 1).val < N := (y 1).isLt
  have h2 : (y 2).val < M := (y 2).isLt
  unfold whole3
  rw [dif_pos ⟨h0, h1, h2⟩]
  congr 1
  funext k
  match k with
  | ⟨0, _⟩ => rfl
  | ⟨1, _⟩ => rfl
  | ⟨2, _⟩ => rfl

/-- The block of batch `b` and column group `g`, `M` columns wide. -/
def group3 {B N M W : ℕ} (x : (⟨3, ![B, N, W]⟩ : Shape).Idx → EReal) (b g : ℕ) : (⟨3, ![1, N, M]⟩ : Shape).Idx → EReal :=
  fun y => whole3 x b (y 1).val (M * g + (y 2).val)

section
open Cert.KernelIdeal

/-- The kernel's result from its inputs. -/
def kernelResult (x : S3x640x5120.Idx → EReal) (k v : S3x640x1024.Idx → EReal) (qs : S40.Idx → EReal) (ks vs : S8.Idx → EReal) :
    S3x640x5120.Idx → EReal := fun y =>
  kernelBlock qs ks vs (group3 (M := 640) x (y 0).val ((y 2).val / 640)) (group3 (M := 128) k (y 0).val ((y 2).val / 640))
    (group3 (M := 128) v (y 0).val ((y 2).val / 640)) ((y 2).val / 640)
    (ix3 (0 : Fin 1) ⟨(y 1).val, (y 1).isLt⟩ (⟨(y 2).val % 640, Nat.mod_lt _ (by norm_num)⟩ : Fin 640))

open Cert.KernelIdeal.Gen Cert.KernelIdeal.Value

variable (m : (ℓ : Loc nD τ sig) → Buf (Elt Ideal) ℓ)

theorem entry_kx (c : Dev nD) : Gen.V m c main_v0 = bitcastToFloat (F := Ideal) .fp8e4m3 (m ((c : Thread nD τ).loc main_arg0)) := by
  entry_read
  rfl

theorem entry_kk (c : Dev nD) : Gen.V m c main_v1 = bitcastToFloat (F := Ideal) .fp8e4m3 (m ((c : Thread nD τ).loc main_arg1)) := by
  entry_read
  rfl

/-- The block that one grid point leaves. -/
theorem block_eq (c : Dev nD) (t : Fin cfg0.N) : outsAt0 m c t = kernelBlock (iblk m c 0 t) (iblk m c 1 t) (iblk m c 2 t) (iblk m c 3 t) (iblk m c 4 t) (iblk m c 5 t) (grid0.coords t 1).val := by
  unfold outsAt0 out0_A_6
  funext y
  exact View.read_writes_apply_of_pieces _ _ _ _ (stores c (grid0.coords t) _ _ _ _ _ _ _ _ _ _ _ _ _ _ _ _ _ _ _ _ _ _) y
    (cover0_A_6 c (grid0.coords t) _ _ _ _ _ _ _ _ _ _ _ _ _ _ _ _ _ _ _ _ _ _ y)

theorem idx0 : ∀ t : Fin cfg0.N, win0_0.index t = ![0] :=
  (by decide +kernel : ∀ t : Fin grid0.N, _)
theorem idx1 : ∀ t : Fin cfg0.N, win0_1.index t = ![0] :=
  (by decide +kernel : ∀ t : Fin grid0.N, _)
theorem idx2 : ∀ t : Fin cfg0.N, win0_2.index t = ![0] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)
theorem idx4 : ∀ t : Fin cfg0.N, win0_4.index t = ![(grid0.coords t 0).val, 0, (grid0.coords t 1).val] :=
  (by decide +kernel : ∀ t : Fin grid0.N, _)
theorem idx5 : ∀ t : Fin cfg0.N, win0_5.index t = ![(grid0.coords t 0).val, 0, (grid0.coords t 1).val] :=
  (by decide +kernel : ∀ t : Fin grid0.N, _)
theorem idx6 : ∀ t : Fin cfg0.N, win0_6.index t = ![(grid0.coords t 0).val, 0, (grid0.coords t 1).val] :=
  (by decide +kernel : ∀ t : Fin grid0.N, _)

theorem blk0 (c : Dev nD) (t : Fin cfg0.N) : iblk m c 0 t = Gen.V m c main_arg3 := by
  funext y
  blk_ext [iblk, idx0]
theorem blk1 (c : Dev nD) (t : Fin cfg0.N) : iblk m c 1 t = Gen.V m c main_arg4 := by
  funext y
  blk_ext [iblk, idx1]
theorem blk2 (c : Dev nD) (t : Fin cfg0.N) : iblk m c 2 t = Gen.V m c main_arg5 := by
  funext y
  blk_ext [iblk, idx2]
theorem blk3 (c : Dev nD) (t : Fin cfg0.N) : iblk m c 3 t
    = group3 (B := 3) (N := 640) (M := 640) (W := 5120) (Gen.V m c main_v0) (grid0.coords t 0).val (grid0.coords t 1).val := by
  funext y
  unfold group3
  blk_simp [iblk]
  refine whole3_eq (B := 3) (N := 640) (M := 5120) _ _ _ _ _ ?_ ?_ ?_
  all_goals blk_simp [idx3]
  exact congrArg (· + _) (Nat.mul_comm _ _)

theorem blk4 (c : Dev nD) (t : Fin cfg0.N) : iblk m c 4 t
    = group3 (B := 3) (N := 640) (M := 128) (W := 1024) (Gen.V m c main_v1) (grid0.coords t 0).val (grid0.coords t 1).val := by
  funext y
  unfold group3
  blk_simp [iblk]
  refine whole3_eq (B := 3) (N := 640) (M := 1024) _ _ _ _ _ ?_ ?_ ?_
  all_goals blk_simp [idx4]
  exact congrArg (· + _) (Nat.mul_comm _ _)

theorem blk5 (c : Dev nD) (t : Fin cfg0.N) : iblk m c 5 t
    = group3 (B := 3) (N := 640) (M := 128) (W := 1024) (Gen.V m c main_arg2) (grid0.coords t 0).val (grid0.coords t 1).val := by
  funext y
  unfold group3
  blk_simp [iblk]
  refine whole3_eq (B := 3) (N := 640) (M := 1024) _ _ _ _ _ ?_ ?_ ?_
  all_goals blk_simp [idx5]
  exact congrArg (· + _) (Nat.mul_comm _ _)

/-- The kernel's result array. -/
theorem array_eq (c : Dev nD) : (dats m 0 c).arrAt 6 cfg0.N = kernelResult (Gen.V m c main_v0) (Gen.V m c main_v1) (Gen.V m c main_arg2) (Gen.V m c main_arg3) (Gen.V m c main_arg4) (Gen.V m c main_arg5) := by
  refine (dats m 0 c).arrAt_eq_of_covers 6 _ (by decide +kernel) fun t hf y => ?_
  blk_simp
  rw [after0_6, block_eq, blk0, blk1, blk2, blk3, blk4, blk5]
  have h0 : ((win0_6.blk t).view.emb y 0).val = (grid0.coords t 0).val := by blk_simp [idx6]
  have h1 : ((win0_6.blk t).view.emb y 1).val = (y 1).val := by blk_simp [idx6]
  have h2 : ((win0_6.blk t).view.emb y 2).val = (grid0.coords t 1).val * 640 + (y 2).val := by blk_simp [idx6]
  have hy : (y 2).val < 640 := (y 2).isLt
  have hy0 : (y 0).val < 1 := (y 0).isLt
  have h3 : ((win0_6.blk t).view.emb y 2).val / 640 = (grid0.coords t 1).val := by omega
  have h4 : ((win0_6.blk t).view.emb y 2).val % 640 = (y 2).val := by omega
  unfold kernelResult
  simp only [h0, h1, h3, h4]
  congr 1
  funext k
  match k with
  | ⟨0, _⟩ => exact Fin.ext (by change (y 0).val = 0; omega)
  | ⟨1, _⟩ => rfl
  | ⟨2, _⟩ => rfl
end

end Cert.Attn
-- ==== Proof.Attn.RefValue.lean ====
/-
  The reference's result at an index, stage by stage.
-/
module

public import proofs.«01_k».proof.Proof.Attn.RefTerm
public import Idealize.ShloMosaic.Lib.Pointwise

@[expose] public section

set_option maxRecDepth 65536

noncomputable section

namespace Cert.Attn.Ref

open Idealize.ShloMosaic
open scoped BigOperators

theorem negInfWord : Ideal.ofBits .f32 0xFF800000#32 = (⊥ : EReal) := by
  simp [Ideal.ofBits, Ideal.ieee]

/-- The host's maximum along the last of five axes, from −∞, and once more against −∞. -/
theorem hostMax {n0 n1 n2 n3 n4 : ℕ} {u : Shape} (x : (⟨5, ![n0, n1, n2, n3, n4]⟩ : Shape).Idx → EReal) (c : u.Idx → EReal)
    (r : (⟨4, ![n0, n1, n2, n3]⟩ : Shape).Idx → EReal)
    (h : (⟨5, ![n0, n1, n2, n3, n4]⟩ : Shape).ReducesTo [4] ⟨4, ![n0, n1, n2, n3]⟩) (hu : 0 < u.numel)
    (hc : ∀ i, c i = ⊥) (hr : ∀ i, r i = ⊥) (a : Fin n0) (b : Fin n1) (e : Fin n2) (f : Fin n3) :
    maximumf (F := Ideal) (φ := .f32) r (Host.reduce (FloatOps.maximumf (F := Ideal) (φ := .f32)) x c h hu) (ix4 a b e f)
      = Finset.univ.sup (fun k : Fin n4 => x (ix5 a b e f k)) := by
  rw [maximumf_apply, Host.reduce_eq_fold, Shape.ReducesTo.fold_fiber_r5_a4, hc, hr]
  exact max_eq_right bot_le

open Cert.ReferenceIdeal

theorem scale_at (qs : S40.Idx → EReal) (ks : S8.Idx → EReal) (g : Fin 8) (h : Fin 5) :
    refScale qs ks (ix2 g h) = qs (ix1 (⟨g.val * 5 + h.val, by omega⟩ : Fin 40)) * ks (ix1 g) * Ideal.ofBits .f32 0x3DB504F3#32 := by
  pointwise [refScale]

theorem scores_at (x : S3x640x5120.Idx → EReal) (k : S3x640x1024.Idx → EReal) (sc : S8x5.Idx → EReal)
    (b : Fin 3) (g : Fin 8) (h : Fin 5) (q j : Fin 640) : refScores x k sc (ix5 b g h q j)
      = (∑ d : Fin 128, k (ix3 b j (⟨g.val * 128 + d.val, by omega⟩ : Fin 1024))
          * x (ix3 b q (⟨g.val * 640 + h.val * 128 + d.val, by omega⟩ : Fin 5120))) * sc (ix2 g h) := by
  pointwise [refScores]

theorem masked_at (s : S3x8x5x640x640.Idx → EReal)
    (b : Fin 3) (g : Fin 8) (h : Fin 5) (q j : Fin 640) :
    refMasked s (ix5 b g h q j) = if j.val ≤ q.val then s (ix5 b g h q j) else ⊥ := by
  pointwise [refMasked, refMask]
  rw [negInfWord]
  unfold Scalar.select
  have key := WordCmp.cmpi_sle_ofNat_eq_one_iff (w := 32) (a := j.val) (b := q.val) (by omega) (by omega)
  by_cases hj : j.val ≤ q.val
  · exact (if_pos (key.mpr hj)).trans (if_pos hj).symm
  · exact (if_neg (fun e => hj (key.mp e))).trans (if_neg hj).symm

theorem max_at (s : S3x8x5x640x640.Idx → EReal) (b : Fin 3) (g : Fin 8) (h : Fin 5) (q : Fin 640) :
    refMax s (ix4 b g h q) = Finset.univ.sup (fun k : Fin 640 => s (ix5 b g h q k)) := by
  unfold refMax
  exact hostMax s _ _ _ _ (fun _ => negInfWord) (fun _ => negInfWord) b g h q

theorem exp_at (s : S3x8x5x640x640.Idx → EReal)
    (b : Fin 3) (g : Fin 8) (h : Fin 5) (q j : Fin 640) :
    refExp s (ix5 b g h q j) = Ideal.exp (s (ix5 b g h q j) - Finset.univ.sup (fun k : Fin 640 => s (ix5 b g h q k))) := by
  rw [← max_at]
  pointwise [refExp, refAlong]

theorem weights_at (s : S3x8x5x640x640.Idx → EReal)
    (b : Fin 3) (g : Fin 8) (h : Fin 5) (q j : Fin 640) :
    refWeights s (ix5 b g h q j) = Ideal.div (s (ix5 b g h q j)) (∑ k : Fin 640, s (ix5 b g h q k)) := by
  pointwise [refWeights, refAlong]

theorem out_at (v : S3x640x1024.Idx → EReal) (p : S3x8x5x640x640.Idx → EReal) (vs : S8.Idx → EReal)
    (b : Fin 3) (g : Fin 8) (h : Fin 5) (q : Fin 640) (d : Fin 128) :
    refOut v p vs (ix5 b q g h d)
      = (∑ k : Fin 640, v (ix3 b k (⟨g.val * 128 + d.val, by omega⟩ : Fin 1024)) * p (ix5 b g h q k)) * vs (ix1 g) := by
  pointwise [refOut]

theorem result_at (x : S3x640x5120.Idx → EReal) (k v : S3x640x1024.Idx → EReal) (qs : S40.Idx → EReal) (ks vs : S8.Idx → EReal)
    (y : S3x640x5120.Idx) (b : Fin 3) (q : Fin 640) (g : Fin 8) (h : Fin 5) (d : Fin 128)
    (hb : (y 0).val = b.val) (hq : (y 1).val = q.val) (hy : (y 2).val = 640 * g.val + 128 * h.val + d.val) :
    refResult x k v qs ks vs y = refOut v (refWeights (refExp (refMasked (refScores x k (refScale qs ks))))) vs (ix5 b q g h d) := by
  unfold refResult
  generalize refOut v (refWeights (refExp (refMasked (refScores x k (refScale qs ks))))) vs = o
  pointwise []
  have hd := d.isLt
  have hh := h.isLt
  congr 1
  refine congr (congr (congr (congr (congrArg ix5 (Fin.ext hb)) (Fin.ext hq)) (Fin.ext ?_)) (Fin.ext ?_)) (Fin.ext ?_) <;>
    · dsimp only
      omega

end Cert.Attn.Ref
-- ==== Proof.Attn.Softmax.lean ====
/-
  The softmax of finite scores, written twice: with powers of e, every weight divided before the values are summed, and with powers
  of two of the scores over log 2, the one division left to the end.
-/
module

public import proofs.«01_k».proof.Proof.Attn.Group

@[expose] public section

noncomputable section

namespace Cert.Attn

open Idealize.ShloMosaic
open scoped BigOperators

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a non-negative real distributes over any sum. -/
theorem sum_mul_real {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The largest of finitely many finite scores. -/
theorem mx_coe (σ : ℕ → ℝ) {q k₀ : ℕ} (hk : k₀ ≤ q) (h : ∀ k ≤ q, σ k ≤ σ k₀) :
    mx (fun k => (σ k : EReal)) q = (σ k₀ : EReal) := by
  refine le_antisymm (Finset.sup_le fun k hk' => ?_) (Finset.le_sup (f := fun k => (σ k : EReal)) (Finset.mem_range.2 (by omega)))
  exact EReal.coe_le_coe_iff.2 (h k (by have := Finset.mem_range.1 hk'; omega))

theorem mx_congr {s t : ℕ → EReal} {q : ℕ} (h : ∀ k ≤ q, s k = t k) : mx s q = mx t q :=
  Finset.sup_congr rfl fun k hk => h k (by have := Finset.mem_range.1 hk; omega)

/-- The output depends on the values and scores of the keys that the query sees only. -/
theorem outOf_congr {v w s t : ℕ → EReal} {vs : EReal} {q : ℕ} (hv : ∀ k ≤ q, v k = w k) (h : ∀ k ≤ q, s k = t k) :
    outOf v s vs q = outOf w t vs q := by
  have he : ∀ k ∈ Finset.range (q + 1), ex s q k = ex t q k := fun k hk => by
    have hk' : k ≤ q := by have := Finset.mem_range.1 hk; omega
    unfold ex
    rw [mx_congr h, h k hk']
  unfold outOf
  rw [Finset.sum_congr rfl he]
  refine congrArg (· * _) (Finset.sum_congr rfl fun k hk => ?_)
  rw [he k hk, hv k (by have := Finset.mem_range.1 hk; omega)]

/-- A power of two of a real over log 2 is a power of e. -/
theorem exp2_eq_exp (a b : ℝ) :
    Ideal.exp2 (((a * (Real.log 2)⁻¹ : ℝ) : EReal) - ((b * (Real.log 2)⁻¹ : ℝ) : EReal)) = ((Real.exp (a - b) : ℝ) : EReal) := by
  rw [← EReal.coe_sub, Ideal.exp2_coe]
  have h2 : Real.log 2 ≠ 0 := (Real.log_pos (by norm_num)).ne'
  refine congrArg _ ?_
  change (2 : ℝ) ^ (a * (Real.log 2)⁻¹ - b * (Real.log 2)⁻¹) = _
  rw [Real.rpow_def_of_pos (by norm_num)]
  congr 1
  field_simp

/-- The two softmaxes agree, over `n` keys of which the query sees `0 … q`. -/
theorem softmax_eq {n q : ℕ} (hq : q < n) (σ : ℕ → ℝ) (v : ℕ → EReal) (vs : EReal) (s : ℕ → EReal)
    (hs : ∀ k, s k = if k ≤ q then (σ k : EReal) else ⊥) :
    (∑ k ∈ Finset.range n, v k * Ideal.div (Ideal.exp (s k - (Finset.range n).sup s))
        (∑ j ∈ Finset.range n, Ideal.exp (s j - (Finset.range n).sup s))) * vs
      = outOf v (fun k => ((σ k * (Real.log 2)⁻¹ : ℝ) : EReal)) vs q := by
  obtain ⟨k₀, hk₀, hmax⟩ := Finset.exists_max_image (Finset.range (q + 1)) σ ⟨0, by simp⟩
  have hk₀' : k₀ ≤ q := by have := Finset.mem_range.1 hk₀; omega
  have hmax' : ∀ k ≤ q, σ k ≤ σ k₀ := fun k hk => hmax k (Finset.mem_range.2 (by omega))
  have hL : (0 : ℝ) ≤ (Real.log 2)⁻¹ := inv_nonneg.2 (Real.log_pos (by norm_num)).le
  have hsup : (Finset.range n).sup s = (σ k₀ : EReal) := by
    rw [show s = fun k => if k ≤ q then (σ k : EReal) else ⊥ from funext hs, sup_masked hq, mx_coe σ hk₀' hmax']
  have hmx : mx (fun k => ((σ k * (Real.log 2)⁻¹ : ℝ) : EReal)) q = ((σ k₀ * (Real.log 2)⁻¹ : ℝ) : EReal) :=
    mx_coe (fun k => σ k * (Real.log 2)⁻¹) hk₀' fun k hk => mul_le_mul_of_nonneg_right (hmax' k hk) hL
  have hexp : ∀ k, Ideal.exp (s k - (Finset.range n).sup s) = if k ≤ q then ((Real.exp (σ k - σ k₀) : ℝ) : EReal) else 0 := by
    intro k
    rw [hsup, hs]
    split
    · rw [← EReal.coe_sub, Ideal.exp_coe]
    · rw [sub_eq_add_neg, EReal.bot_add, Ideal.exp_bot]
  have hex : ∀ k, ex (fun k => ((σ k * (Real.log 2)⁻¹ : ℝ) : EReal)) q k
      = if k ≤ q then ((Real.exp (σ k - σ k₀) : ℝ) : EReal) else 0 := by
    intro k
    unfold ex
    rw [hmx, exp2_eq_exp]
  set w : ℕ → EReal := fun k => if k ≤ q then ((Real.exp (σ k - σ k₀) : ℝ) : EReal) else 0 with hw
  have w0 : ∀ k, q < k → w k = 0 := fun k hk => if_neg (by omega)
  have hZ : ∑ k ∈ Finset.range (q + 1), w k = ((∑ k ∈ Finset.range (q + 1), Real.exp (σ k - σ k₀) : ℝ) : EReal) := by
    rw [coe_sum]
    exact Finset.sum_congr rfl fun k hk => if_pos (by have := Finset.mem_range.1 hk; omega)
  have hpos : 0 < ∑ k ∈ Finset.range (q + 1), Real.exp (σ k - σ k₀) :=
    Finset.sum_pos (fun k _ => Real.exp_pos _) ⟨0, by simp⟩
  unfold outOf
  simp only [hexp, hex]
  rw [sum_range_seen hq (fun k => w k) w0, hZ]
  generalize ∑ k ∈ Finset.range (q + 1), Real.exp (σ k - σ k₀) = Z at hpos
  simp only [Ideal.div_coe hpos.ne', ← mul_assoc]
  rw [sum_mul_real _ _ (one_div_nonneg.2 hpos.le), sum_range_seen hq (fun k => v k * w k) (fun k hk => by rw [w0 k hk, mul_zero])]
  rw [mul_assoc, mul_assoc, mul_comm vs]

end Cert.Attn
-- ==== Proof.Attn.Equal.lean ====
/-
  The reference's result is the kernel's, where queries, keys and their scales are finite.
-/
module

public import proofs.«01_k».proof.Proof.Attn.Kernel
public import proofs.«01_k».proof.Proof.Attn.RefValue
public import proofs.«01_k».proof.Proof.Attn.Softmax

@[expose] public section

set_option maxRecDepth 65536

noncomputable section

namespace Cert.Attn

open Idealize.ShloMosaic
open scoped BigOperators

theorem group3_at {B N M W : ℕ} (x : (⟨3, ![B, N, W]⟩ : Shape).Idx → EReal) (b : Fin B) (g : ℕ) (a : Fin N) (c : ℕ) (e : Fin W)
    (hc : c < M) (he : e.val = M * g + c) : val3 (N := N) (M := M) (group3 x b.val g) a.val c = x (ix3 b a e) :=
  (val3_eq (group3 x b.val g) (ix3 (0 : Fin 1) a (⟨c, hc⟩ : Fin M)) a.val c rfl rfl).symm.trans
    (whole3_eq x (ix3 b a e) b.val a.val (M * g + c) rfl rfl he).symm

theorem val1_at {N : ℕ} (x : (⟨1, ![N]⟩ : Shape).Idx → EReal) (a : ℕ) (e : Fin N) (he : e.val = a) : val1 x a = x (ix1 e) :=
  (val1_eq x (ix1 e) a he).symm

theorem sup_univ_range {n : ℕ} (s : ℕ → EReal) : Finset.univ.sup (fun k : Fin n => s k.val) = (Finset.range n).sup s := by
  refine le_antisymm (Finset.sup_le fun k _ => Finset.le_sup (f := s) (Finset.mem_range.2 k.isLt)) (Finset.sup_le fun k hk => ?_)
  exact Finset.le_sup (f := fun k : Fin n => s k.val) (Finset.mem_univ ⟨k, Finset.mem_range.1 hk⟩)

/-- The scores' constant, 1/√128 rounded to 32 bits, is a real number. -/
theorem scaleWord : ∃ c : ℝ, Ideal.ofBits .f32 0x3DB504F3#32 = (c : EReal) :=
  ⟨_, by simp [Ideal.ofBits, Ideal.ieee]; rfl⟩

open Cert.ReferenceIdeal in
theorem result_eq (X : S3x640x5120.Idx → ℝ) (K : S3x640x1024.Idx → ℝ) (v : S3x640x1024.Idx → EReal) (QS : S40.Idx → ℝ)
    (KS : S8.Idx → ℝ) (vs : S8.Idx → EReal) :
    refResult (fun i => (X i : EReal)) (fun i => (K i : EReal)) v (fun i => (QS i : EReal)) (fun i => (KS i : EReal)) vs
      = kernelResult (fun i => (X i : EReal)) (fun i => (K i : EReal)) v (fun i => (QS i : EReal)) (fun i => (KS i : EReal)) vs := by
  obtain ⟨c, hc⟩ := scaleWord
  funext y
  have hy2 : (y 2).val < 5120 := (y 2).isLt
  let b : Fin 3 := ⟨(y 0).val, (y 0).isLt⟩
  let q : Fin 640 := ⟨(y 1).val, (y 1).isLt⟩
  let g : Fin 8 := ⟨(y 2).val / 640, by omega⟩
  let h : Fin 5 := ⟨(y 2).val % 640 / 128, by omega⟩
  let d : Fin 128 := ⟨(y 2).val % 640 % 128, by omega⟩
  -- a score as a real number
  let σ : ℕ → ℝ := fun k => if hk : k < 640 then
      (∑ e : Fin 128, K (ix3 b (⟨k, hk⟩ : Fin 640) (⟨g.val * 128 + e.val, by omega⟩ : Fin 1024))
        * X (ix3 b q (⟨g.val * 640 + h.val * 128 + e.val, by omega⟩ : Fin 5120)))
      * (QS (ix1 (⟨g.val * 5 + h.val, by omega⟩ : Fin 40)) * KS (ix1 g) * c)
    else 0
  let V : ℕ → EReal := fun k => if hk : k < 640 then v (ix3 b (⟨k, hk⟩ : Fin 640) (⟨g.val * 128 + d.val, by omega⟩ : Fin 1024)) else 0
  let s : ℕ → EReal := fun k => if k ≤ q.val then (σ k : EReal) else ⊥
  have hscore : ∀ j : Fin 640, refMasked (refScores (fun i => (X i : EReal)) (fun i => (K i : EReal))
      (refScale (fun i => (QS i : EReal)) (fun i => (KS i : EReal)))) (ix5 b g h q j) = s j.val := by
    intro j
    rw [Ref.masked_at, Ref.scores_at, Ref.scale_at, hc]
    refine if_congr Iff.rfl ?_ rfl
    simp only [σ, dif_pos j.isLt, EReal.coe_mul, coe_sum]
  have hV : ∀ j : Fin 640, v (ix3 b j (⟨g.val * 128 + d.val, by omega⟩ : Fin 1024)) = V j.val := fun j => by
    simp only [V, dif_pos j.isLt]
  rw [Ref.result_at _ _ v _ _ vs y b q g h d rfl rfl (by simp only [g, h, d]; omega), Ref.out_at]
  simp only [Ref.weights_at, Ref.exp_at, hscore, hV]
  rw [sup_univ_range, Fin.sum_univ_eq_sum_range (fun k => Ideal.exp (s k - (Finset.range 640).sup s)) 640,
    Fin.sum_univ_eq_sum_range (fun k => V k * Ideal.div (Ideal.exp (s k - (Finset.range 640).sup s))
      (∑ j ∈ Finset.range 640, Ideal.exp (s j - (Finset.range 640).sup s))) 640,
    softmax_eq q.isLt σ V _ s fun _ => rfl]
  change _ = attOf (headScale (fun i => (QS i : EReal)) (fun i => (KS i : EReal)) g.val)
    (val3 (N := 640) (M := 640) (group3 (fun i => (X i : EReal)) b.val g.val))
    (val3 (N := 640) (M := 128) (group3 (fun i => (K i : EReal)) b.val g.val)) (val3 (N := 640) (M := 128) (group3 v b.val g.val))
    (val1 (N := 8) vs g.val) h.val q.val d.val
  unfold attOf
  rw [val1_at vs g.val g rfl]
  refine outOf_congr (fun k hk => ?_) (fun k hk => ?_)
  · have hk' : k < 640 := by omega
    refine (dif_pos hk').trans (group3_at v b g.val ⟨k, hk'⟩ d.val _ d.isLt (by dsimp only; omega)).symm
  · have hk' : k < 640 := by omega
    refine Eq.symm ?_
    unfold scoreOf headScale
    rw [val1_at (fun i => (QS i : EReal)) _ (⟨g.val * 5 + h.val, by omega⟩ : Fin 40) (by dsimp only; simp only [g, h]; omega),
      val1_at (fun i => (KS i : EReal)) _ g rfl, hc]
    simp only [σ, dif_pos hk', EReal.coe_mul, coe_sum]
    rw [Finset.sum_range]
    refine Eq.trans (mul_assoc _ _ _).symm (congrArg (fun t : EReal => t * _ * _) ?_)
    refine Finset.sum_congr rfl fun e _ => congr (congrArg _ ?_) ?_
    · exact group3_at (fun i => (K i : EReal)) b g.val ⟨k, hk'⟩ e.val _ e.isLt (by dsimp only; omega)
    · exact group3_at (fun i => (X i : EReal)) b g.val q _ _ (by simp only [h]; omega) (by simp only [h]; omega)

end Cert.Attn
-- ==== Proof.Attn.Finite.lean ====
/-
  What the precondition gives: every query and key is a real number, and so is every scale of theirs.
-/
module

public import proofs.«01_k».proof.Pre_codes_are_numbers
public import Idealize.ShloMosaic.PureOps.Ideal

@[expose] public section

noncomputable section

namespace Cert.Attn

open Idealize.ShloMosaic Cert.Pre_codes_are_numbers

/-- Of the 256 codes of an 8-bit float without infinities, all but two are numbers. -/
theorem code_real (b : BitVec 8) (h1 : b ≠ 127#8) (h2 : b ≠ 255#8) : ∃ r : ℝ, FloatOps.ofBits (F := Ideal) .fp8e4m3 b = (r : EReal) := by
  have key : ¬ ((b.extractLsb' 3 4).toNat = 15 ∧ (b.extractLsb' 0 3).toNat = 7) := by
    revert b
    decide
  change ∃ r : ℝ, Ideal.e4m3fn b = (r : EReal)
  unfold Ideal.e4m3fn
  simp only [if_neg key]
  split <;> exact ⟨_, rfl⟩

theorem posInfWord : Ideal.ofBits .f32 0x7F800000#32 = (⊤ : EReal) := by
  simp [Ideal.ofBits, Ideal.ieee]

/-- What is less than ∞ in absolute value is a real number. -/
theorem real_of_abs (a : EReal) (h : max a (-a) < ⊤) : ∃ r : ℝ, a = (r : EReal) := by
  induction a using EReal.rec with
  | bot => simp at h
  | top => simp at h
  | coe r => exact ⟨r, rfl⟩

theorem ne_of_mask {s : Shape} {x y : IVec s 8} (h : cmpi .ne x y = fun _ => 1#1) (i : s.Idx) : x i ≠ y i := by
  have e : IntOp.cmpi .ne (x i) (y i) = 1#1 := congrFun h i
  intro e'
  rw [e'] at e
  simp [IntOp.cmpi] at e

theorem real_of_mask {s : Shape} {x y : s.Idx → EReal} (hy : ∀ i, y i = ⊤)
    (h : cmpf (F := Ideal) (φ := .f32) .olt (Host.absf (F := Ideal) (φ := .f32) x) y = fun _ => 1#1) (i : s.Idx) :
    ∃ r : ℝ, x i = (r : EReal) := by
  have e : Ideal.cmp .olt (max (x i) (-(x i))) (y i) = 1#1 := congrFun h i
  rw [hy] at e
  refine real_of_abs _ ?_
  by_contra hn
  simp [Ideal.cmp, hn] at e

variable [Facts]

/-- The predicate's six masks all true: queries, keys and their scales are real numbers. -/
theorem reals (a0 : IVec S3x640x5120 8) (a1 : IVec S3x640x1024 8) (a2 : S3x640x1024.Idx → EReal) (a3 : S40.Idx → EReal)
    (a4 a5 : S8.Idx → EReal)
    (h1 : (fn (F := Ideal) a0 a1 a2 a3 a4 a5).1 = fun _ => 1#1) (h2 : (fn (F := Ideal) a0 a1 a2 a3 a4 a5).2.1 = fun _ => 1#1)
    (h3 : (fn (F := Ideal) a0 a1 a2 a3 a4 a5).2.2.1 = fun _ => 1#1) (h4 : (fn (F := Ideal) a0 a1 a2 a3 a4 a5).2.2.2.1 = fun _ => 1#1)
    (h5 : (fn (F := Ideal) a0 a1 a2 a3 a4 a5).2.2.2.2.1 = fun _ => 1#1) (h6 : (fn (F := Ideal) a0 a1 a2 a3 a4 a5).2.2.2.2.2 = fun _ => 1#1) :
    (∃ X : S3x640x5120.Idx → ℝ, bitcastToFloat (F := Ideal) .fp8e4m3 a0 = fun i => (X i : EReal))
    ∧ (∃ K : S3x640x1024.Idx → ℝ, bitcastToFloat (F := Ideal) .fp8e4m3 a1 = fun i => (K i : EReal))
    ∧ (∃ Q : S40.Idx → ℝ, a3 = fun i => (Q i : EReal)) ∧ ∃ Q : S8.Idx → ℝ, a4 = fun i => (Q i : EReal) := by
  have r0 : ∀ i, ∃ r : ℝ, bitcastToFloat (F := Ideal) .fp8e4m3 a0 i = (r : EReal) :=
    fun i => code_real (a0 i) (ne_of_mask h1 i) (ne_of_mask h2 i)
  have r1 : ∀ i, ∃ r : ℝ, bitcastToFloat (F := Ideal) .fp8e4m3 a1 i = (r : EReal) :=
    fun i => code_real (a1 i) (ne_of_mask h3 i) (ne_of_mask h4 i)
  have r3 := real_of_mask (fun _ => posInfWord) h5
  have r4 := real_of_mask (fun _ => posInfWord) h6
  choose X hX using r0
  choose K hK using r1
  choose Q hQ using r3
  choose R hR using r4
  exact ⟨⟨X, funext hX⟩, ⟨K, funext hK⟩, ⟨Q, funext hQ⟩, ⟨R, funext hR⟩⟩

end Cert.Attn
-- ==== Proof.lean ====
/-
  The proof of `Cert.Claim`: the two programs and the reference run and keep their arguments, the named constant denotes 1/log 2,
  and at the ideal instance the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Attn.RefRun
public import proofs.«01_k».proof.Proof.Attn.Equal
public import proofs.«01_k».proof.Proof.Attn.Finite
public import Idealize.ShloMosaic.Adequacy
public import Idealize.ShloMosaic.Init

@[expose] public section

noncomputable section

namespace Cert.Proof

open Idealize.ShloMosaic Idealize.SL.Sem Cert.Kernel

/-- The side conditions of the predicate's operations: scalars broadcast. -/
theorem preFacts : Cert.Pre_codes_are_numbers.Facts := by
  constructor <;> decide

/-- At the ideal instance the kernel and the reference end with equal results. -/
theorem algebraic : Cert.algebraic_KernelIdeal_ReferenceIdeal_pre_codes_are_numbers (hKernelIdeal := Cert.KernelIdeal.Gen.facts)
    (hReferenceIdeal := Cert.ReferenceIdeal.Gen.facts) (hPre_codes_are_numbers := preFacts) := by
  intro m g m' g' hpre hagree
  haveI := preFacts
  refine ⟨fun c => Cert.Attn.kernelResult
    (bitcastToFloat (F := Ideal) .fp8e4m3 (m ((c.tc : Thread Cert.KernelIdeal.nD Cert.KernelIdeal.τ).loc Cert.KernelIdeal.main_arg0)))
    (bitcastToFloat (F := Ideal) .fp8e4m3 (m ((c.tc : Thread Cert.KernelIdeal.nD Cert.KernelIdeal.τ).loc Cert.KernelIdeal.main_arg1)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · refine (θ_run _ _ _).mono (fun r h c => ⟨(h c).1.trans ?_, (h c).2⟩) (Cert.KernelIdeal.Value.run_blocks m g)
    rw [Cert.Attn.array_eq m c, Cert.Attn.entry_kx m c, Cert.Attn.entry_kk m c, Cert.KernelIdeal.Gen.V_main_arg2,
      Cert.KernelIdeal.Gen.V_main_arg3, Cert.KernelIdeal.Gen.V_main_arg4, Cert.KernelIdeal.Gen.V_main_arg5]
  · refine (θ_run _ _ _).mono (fun r h c => ⟨(h c).1.trans ?_, (h c).2⟩) (Cert.Attn.Ref.run m' g')
    obtain ⟨h1, h2, h3, h4, h5, h6⟩ := hpre c
    obtain ⟨⟨X, hX⟩, ⟨K, hK⟩, ⟨Q, hQ⟩, ⟨R, hR⟩⟩ := Cert.Attn.reals _ _ _ _ _ _ h1 h2 h3 h4 h5 h6
    obtain ⟨e0, e1, e2, e3, e4, e5⟩ := hagree c
    beta_reduce
    rw [e0, e1, e2, e3, e4, e5, hX, hK, hQ, hR]
    exact Cert.Attn.result_eq X K _ Q R _

theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "log2_e" .f32 0x3FB8AA3B#32 (((Real.log 2)⁻¹ : ℝ) : EReal) rfl,
  algebraic⟩

end Cert.Proof

end
